-- ==== Defs.lean ====
def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernelIdeal : Cert.KernelIdeal.Facts) (hReferenceIdeal : Cert.ReferenceIdeal.Facts),
    quiescent_KernelIdeal (hKernelIdeal := hKernelIdeal)
    ∧ quiescent_ReferenceIdeal (hReferenceIdeal := hReferenceIdeal)
    ∧ algebraic_KernelIdeal_ReferenceIdeal (hKernelIdeal := hKernelIdeal) (hReferenceIdeal := hReferenceIdeal)
-- ==== KernelIdeal.lean ====
abbrev S4x4096x2048 : Shape := ⟨3, ![4, 4096, 2048]⟩
abbrev S1x4096x2048 : Shape := ⟨3, ![1, 4096, 2048]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S32x2048 : Shape := ⟨2, ![32, 2048]⟩
abbrev S32x1x2048 : Shape := ⟨3, ![32, 1, 2048]⟩
abbrev S32x128x1 : Shape := ⟨3, ![32, 128, 1]⟩
abbrev S128x2048 : Shape := ⟨2, ![128, 2048]⟩
abbrev S1x1x2048 : Shape := ⟨3, ![1, 1, 2048]⟩
abbrev S1x128x1 : Shape := ⟨3, ![1, 128, 1]⟩
abbrev S127x2048 : Shape := ⟨2, ![127, 2048]⟩
abbrev S1x2048 : Shape := ⟨2, ![1, 2048]⟩
abbrev S128x128 : Shape := ⟨2, ![128, 128]⟩
abbrev S128 : Shape := ⟨1, ![128]⟩
abbrev S128x1 : Shape := ⟨2, ![128, 1]⟩
abbrev S1x4096 : Shape := ⟨2, ![1, 4096]⟩
abbrev S128x4096 : Shape := ⟨2, ![128, 4096]⟩
abbrev S32x128 : Shape := ⟨2, ![32, 128]⟩
abbrev S4104 : Shape := ⟨1, ![4104]⟩
abbrev S512 : Shape := ⟨1, ![512]⟩
abbrev S1 : Shape := ⟨1, ![1]⟩
abbrev S8x512x1 : Shape := ⟨3, ![8, 512, 1]⟩
abbrev S4x8x2048 : Shape := ⟨3, ![4, 8, 2048]⟩
abbrev S4x8x1x2048 : Shape := ⟨4, ![4, 8, 1, 2048]⟩
abbrev S1x512x2048 : Shape := ⟨3, ![1, 512, 2048]⟩
abbrev S1x1x1x2048 : Shape := ⟨4, ![1, 1, 1, 2048]⟩
abbrev S1x512x1 : Shape := ⟨3, ![1, 512, 1]⟩
abbrev S512x2048 : Shape := ⟨2, ![512, 2048]⟩
abbrev S512x1 : Shape := ⟨2, ![512, 1]⟩
abbrev S511x2048 : Shape := ⟨2, ![511, 2048]⟩

abbrev nBuf : Space → Nat
  | .hbm => 30
  | .vmem => 25
  | .smem => 4
  | _ => 0

abbrev bufTy : (tb : Table) → Fin (tcTables nBuf tb) → BufTy
  | .hbm, ⟨0, _⟩ => ⟨S4x4096x2048, .f32⟩
  | .hbm, ⟨1, _⟩ => ⟨S1x4096x2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x2048, .f32⟩
  | .hbm, ⟨12, _⟩ => ⟨S4096x2048, .f32⟩
  | .hbm, ⟨13, _⟩ => ⟨S32x2048, .f32⟩
  | .hbm, ⟨14, _⟩ => ⟨S32x1x2048, .f32⟩
  | .hbm, ⟨15, _⟩ => ⟨S32x128x1, .f32⟩
  | .hbm, ⟨16, _⟩ => ⟨S4096, .f32⟩
  | .hbm, ⟨17, _⟩ => ⟨S32x128x1, .f32⟩
  | .hbm, ⟨18, _⟩ => ⟨S1x4096, .f32⟩
  | .hbm, ⟨19, _⟩ => ⟨S32x128x1, .i32⟩
  | .hbm, ⟨20, _⟩ => ⟨S4096, .i32⟩
  | .hbm, ⟨21, _⟩ => ⟨S32x128, .f32⟩
  | .hbm, ⟨22, _⟩ => ⟨S32x128, .f32⟩
  | .hbm, ⟨23, _⟩ => ⟨S8x512x1, .f32⟩
  | .hbm, ⟨24, _⟩ => ⟨S8x512x1, .f32⟩
  | .hbm, ⟨25, _⟩ => ⟨S4x8x2048, .f32⟩
  | .hbm, ⟨26, _⟩ => ⟨S4x8x1x2048, .f32⟩
  | .hbm, ⟨27, _⟩ => ⟨S4x8x2048, .f32⟩
  | .hbm, ⟨28, _⟩ => ⟨S4x8x1x2048, .f32⟩
  | .hbm, ⟨29, _⟩ => ⟨S4x4096x2048, .f32⟩
  | .local _ .vmem, ⟨0, _⟩ => ⟨S128x2048, .f32⟩
  | .local _ .vmem, ⟨1, _⟩ => ⟨S128x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x128x1, .f32⟩
  | .local _ .vmem, ⟨5, _⟩ => ⟨S1x128x1, .f32⟩
  | .local _ .vmem, ⟨6, _⟩ => ⟨S1x128x1, .f32⟩
  | .local _ .vmem, ⟨7, _⟩ => ⟨S1x128x1, .f32⟩
  | .local _ .vmem, ⟨8, _⟩ => ⟨S1x4096, .f32⟩
  | .local _ .vmem, ⟨9, _⟩ => ⟨S1x128x1, .i32⟩
  | .local _ .vmem, ⟨10, _⟩ => ⟨S1x128x1, .i32⟩
  | .local _ .vmem, ⟨11, _⟩ => ⟨S32x128, .f32⟩
  | .local _ .vmem, ⟨12, _⟩ => ⟨S32x128, .f32⟩
  | .local _ .vmem, ⟨13, _⟩ => ⟨S1x512x2048, .f32⟩
  | .local _ .vmem, ⟨14, _⟩ => ⟨S1x512x2048, .f32⟩
  | .local _ .vmem, ⟨15, _⟩ => ⟨S1x1x1x2048, .f32⟩
  | .local _ .vmem, ⟨16, _⟩ => ⟨S1x1x1x2048, .f32⟩
  | .local _ .vmem, ⟨17, _⟩ => ⟨S1x1x1x2048, .f32⟩
  | .local _ .vmem, ⟨18, _⟩ => ⟨S1x1x1x2048, .f32⟩
  | .local _ .vmem, ⟨19, _⟩ => ⟨S1x512x1, .f32⟩
  | .local _ .vmem, ⟨20, _⟩ => ⟨S1x512x1, .f32⟩
  | .local _ .vmem, ⟨21, _⟩ => ⟨S1x512x1, .f32⟩
  | .local _ .vmem, ⟨22, _⟩ => ⟨S1x512x1, .f32⟩
  | .local _ .vmem, ⟨23, _⟩ => ⟨S1x512x2048, .f32⟩
  | .local _ .vmem, ⟨24, _⟩ => ⟨S1x512x2048, .f32⟩
  | .local _ .smem, ⟨0, _⟩ => ⟨S4096, .i32⟩
  | .local _ .smem, ⟨1, _⟩ => ⟨S4096, .i32⟩
  | .local _ .smem, ⟨2, _⟩ => ⟨S4104, .i32⟩
  | .local _ .smem, ⟨3, _⟩ => ⟨S512, .i32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15_0 : Ref sig .tc := ⟨.hbm, 21, rfl⟩
abbrev main_v15_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg1_0 : Ref sig .tc := ⟨.vmem, 11, rfl⟩
abbrev cc2_stg2_0 : Ref sig .tc := ⟨.vmem, 12, rfl⟩
abbrev cc3_stg0_0 : Ref sig .tc := ⟨.vmem, 13, rfl⟩
abbrev cc3_stg0_1 : Ref sig .tc := ⟨.vmem, 14, rfl⟩
abbrev cc3_stg1_0 : Ref sig .tc := ⟨.vmem, 15, rfl⟩
abbrev cc3_stg1_1 : Ref sig .tc := ⟨.vmem, 16, rfl⟩
abbrev cc3_stg2_0 : Ref sig .tc := ⟨.vmem, 17, rfl⟩
abbrev cc3_stg2_1 : Ref sig .tc := ⟨.vmem, 18, rfl⟩
abbrev cc3_stg3_0 : Ref sig .tc := ⟨.vmem, 19, rfl⟩
abbrev cc3_stg3_1 : Ref sig .tc := ⟨.vmem, 20, rfl⟩
abbrev cc3_stg4_0 : Ref sig .tc := ⟨.vmem, 21, rfl⟩
abbrev cc3_stg4_1 : Ref sig .tc := ⟨.vmem, 22, rfl⟩
abbrev cc3_stg5_0 : Ref sig .tc := ⟨.vmem, 23, rfl⟩
abbrev cc3_stg5_1 : Ref sig .tc := ⟨.vmem, 24, rfl⟩
abbrev cc2_stg0_0 : Ref sig .tc := ⟨.smem, 0, rfl⟩
abbrev cc2_scratch0 : Ref sig .tc := ⟨.smem, 1, rfl⟩
abbrev cc2_scratch1 : Ref sig .tc := ⟨.smem, 2, rfl⟩
abbrev cc2_scratch2 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem1_0 : DmaSem sig := 12
abbrev cc2_sem2_0 : DmaSem sig := 13
abbrev cc3_sem0_0 : DmaSem sig := 14
abbrev cc3_sem0_1 : DmaSem sig := 15
abbrev cc3_sem1_0 : DmaSem sig := 16
abbrev cc3_sem1_1 : DmaSem sig := 17
abbrev cc3_sem2_0 : DmaSem sig := 18
abbrev cc3_sem2_1 : DmaSem sig := 19
abbrev cc3_sem3_0 : DmaSem sig := 20
abbrev cc3_sem3_1 : DmaSem sig := 21
abbrev cc3_sem4_0 : DmaSem sig := 22
abbrev cc3_sem4_1 : DmaSem sig := 23
abbrev cc3_sem5_0 : DmaSem sig := 24
abbrev cc3_sem5_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let v0 : BitVec 32 := Scalar.addi arg0 c1_i32
  let c31_i32 : BitVec 32 := 31#32
  let v1 : BitVec 32 := Scalar.minsi v0 c31_i32
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x128x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x128x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := .none

@[reducible] def k2_t1_loop : Scf.Loop 32 :=
  let c0_i32 : BitVec 32 := 0#32
  let c4096_i32 : BitVec 32 := 4096#32
  let v0 : BitVec 32 := Scalar.addi c0_i32 c4096_i32
  let c1_i32 : BitVec 32 := 1#32
  ⟨c0_i32, v0, c1_i32⟩
def k2_off1 (k2_t1 : Fin k2_t1_loop.trips) : Fin 1 → Nat :=
  let c0_i32 : BitVec 32 := 0#32
  let c1_i32 : BitVec 32 := 1#32
  let arg6 : BitVec 32 := Scf.iv c0_i32 c1_i32 k2_t1
  let v14 : Index := Scalar.indexCast arg6
  ![v14.toNat]
def k2_off2 (v15 : BitVec 32) : Fin 1 → Nat :=
  let v16 : Index := Scalar.indexCast v15
  ![v16.toNat]

def k2_chk1 (v15 : BitVec 32) : Prop :=
  (∀ a, (k2_off2 v15) a + S1.size a ≤ S4096.size a)
theorem k2_off2_inb : ∀ (v15 : BitVec 32) (k2_hw1 : k2_chk1 v15), ∀ a, (k2_off2 v15) a + S1.size a ≤ S4096.size a := fun v15 k2_hw1 => k2_hw1

@[reducible] def k2_t2_loop : Scf.Loop 32 :=
  let c0_i32_1 : BitVec 32 := 0#32
  let c4104_i32 : BitVec 32 := 4104#32
  let v1 : BitVec 32 := Scalar.addi c0_i32_1 c4104_i32
  let c1_i32_2 : BitVec 32 := 1#32
  ⟨c0_i32_1, v1, c1_i32_2⟩
def k2_off3 (k2_t2 : Fin k2_t2_loop.trips) : Fin 1 → Nat :=
  let c0_i32_1 : BitVec 32 := 0#32
  let c1_i32_2 : BitVec 32 := 1#32
  let arg6 : BitVec 32 := Scf.iv c0_i32_1 c1_i32_2 k2_t2
  let v14 : Index := Scalar.indexCast arg6
  ![v14.toNat]
@[reducible] def k2_t3_loop : Scf.Loop 32 :=
  let c0_i32_4 : BitVec 32 := 0#32
  let c512_i32 : BitVec 32 := 512#32
  let v2 : BitVec 32 := Scalar.addi c0_i32_4 c512_i32
  let c1_i32_5 : BitVec 32 := 1#32
  ⟨c0_i32_4, v2, c1_i32_5⟩
def k2_off4 (k2_t3 : Fin k2_t3_loop.trips) : Fin 1 → Nat :=
  let c0_i32_4 : BitVec 32 := 0#32
  let c1_i32_5 : BitVec 32 := 1#32
  let arg6 : BitVec 32 := Scf.iv c0_i32_4 c1_i32_5 k2_t3
  let v14 : Index := Scalar.indexCast arg6
  ![v14.toNat]
def k2_off5 (arg6 : BitVec 32) : Fin 1 → Nat :=
  let v14 : Index := Scalar.indexCast arg6
  ![v14.toNat]

def k2_chk2 (arg6 : BitVec 32) : Prop :=
  (∀ a, (k2_off5 arg6) a + S1.size a ≤ S4096.size a)
theorem k2_off5_inb : ∀ (arg6 : BitVec 32) (k2_hw2 : k2_chk2 arg6), ∀ a, (k2_off5 arg6) a + S1.size a ≤ S4096.size a := fun arg6 k2_hw2 => k2_hw2

def k2_off6 (v15 : BitVec 32) : Fin 1 → Nat :=
  let v16 : Index := Scalar.indexCast v15
  ![v16.toNat]

def k2_off7 (v15 : BitVec 32) : Fin 1 → Nat :=
  let c1_i32_16 : BitVec 32 := 1#32
  let v18 : BitVec 32 := Scalar.addi v15 c1_i32_16
  let v19 : Index := Scalar.indexCast v18
  ![v19.toNat]

def k2_chk3 (v15 : BitVec 32) : Prop :=
  (∀ a, (k2_off6 v15) a + S1.size a ≤ S4104.size a) ∧
  (∀ a, (k2_off7 v15) a + S1.size a ≤ S4104.size a)
theorem k2_off6_inb : ∀ (v15 : BitVec 32) (k2_hw3 : k2_chk3 v15), ∀ a, (k2_off6 v15) a + S1.size a ≤ S4104.size a := fun v15 k2_hw3 => k2_hw3.1
theorem k2_off7_inb : ∀ (v15 : BitVec 32) (k2_hw3 : k2_chk3 v15), ∀ a, (k2_off7 v15) a + S1.size a ≤ S4104.size a := fun v15 k2_hw3 => k2_hw3.2

def k2_off8 (arg7 : BitVec 32) : Fin 1 → Nat :=
  let v32 : Index := Scalar.indexCast arg7
  ![v32.toNat]

def k2_chk4 (arg7 : BitVec 32) : Prop :=
  (∀ a, (k2_off8 arg7) a + S1.size a ≤ S512.size a)
theorem k2_off8_inb : ∀ (arg7 : BitVec 32) (k2_hw4 : k2_chk4 arg7), ∀ a, (k2_off8 arg7) a + S1.size a ≤ S512.size a := fun arg7 k2_hw4 => k2_hw4

@[reducible] def k2_t4_loop : Scf.Loop 32 :=
  let c0_i32_9 : BitVec 32 := 0#32
  let c512_i32_10 : BitVec 32 := 512#32
  let v10 : BitVec 32 := Scalar.addi c0_i32_9 c512_i32_10
  let c1_i32_11 : BitVec 32 := 1#32
  ⟨c0_i32_9, v10, c1_i32_11⟩
def k2_off9 (k2_t4 : Fin k2_t4_loop.trips) : Fin 1 → Nat :=
  let c0_i32_9 : BitVec 32 := 0#32
  let c1_i32_11 : BitVec 32 := 1#32
  let arg6 : BitVec 32 := Scf.iv c0_i32_9 c1_i32_11 k2_t4
  let v14 : Index := Scalar.indexCast arg6
  ![v14.toNat]
abbrev stage2_0 : Fin 1 → Memref sig .tc .smem S4096 .i32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S32x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S32x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev grid3 : Pipeline.Grid := ⟨2, ![4, 8], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![arg0.toNat, v1.toNat, c0_i32_0.toNat, c0_i32_1.toNat]

def cc3_transform_2 (i : grid3.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c7_i32 : BitVec 32 := 7#32
  let v1 : BitVec 32 := Scalar.minsi v0 c7_i32
  let c0_i32 : BitVec 32 := 0#32
  let c0_i32_0 : BitVec 32 := 0#32
  let c0_i32_1 : BitVec 32 := 0#32
  ![arg0.toNat, v1.toNat, c0_i32.toNat, c0_i32_0.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc3_transform_4 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc3_transform_5 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1x512x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x1x1x2048 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1x1x1x2048 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1x512x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![false, true]

abbrev stage3_4 : Fin 2 → Memref sig .tc .vmem S1x512x1 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![false, true]

abbrev stage3_5 : Fin 2 → Memref sig .tc .vmem S1x512x2048 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]
-- ==== ReferenceIdeal.lean ====
abbrev S4x4096x2048 : Shape := ⟨3, ![4, 4096, 2048]⟩
abbrev S_ : Shape := ⟨0, ![]⟩
abbrev S4x4096 : Shape := ⟨2, ![4, 4096]⟩
abbrev S4x4096x1 : Shape := ⟨3, ![4, 4096, 1]⟩
abbrev S4x4096x4096 : Shape := ⟨3, ![4, 4096, 4096]⟩
abbrev S4095 : Shape := ⟨1, ![4095]⟩
abbrev S4095x1 : Shape := ⟨2, ![4095, 1]⟩
abbrev S4095x3 : Shape := ⟨2, ![4095, 3]⟩
abbrev S4096 : Shape := ⟨1, ![4096]⟩
abbrev S1 : Shape := ⟨1, ![1]⟩
abbrev S4x4095x2048 : Shape := ⟨3, ![4, 4095, 2048]⟩
abbrev S4x1x2048 : Shape := ⟨3, ![4, 1, 2048]⟩
abbrev S1x4096x1 : Shape := ⟨3, ![1, 4096, 1]⟩
abbrev S3584 : Shape := ⟨1, ![3584]⟩
abbrev S4096x1 : Shape := ⟨2, ![4096, 1]⟩
abbrev S3584x1 : Shape := ⟨2, ![3584, 1]⟩
abbrev S4x3584x2048 : Shape := ⟨3, ![4, 3584, 2048]⟩

abbrev nBuf : Space → Nat
  | .hbm => 237
  | .vmem => 0
  | .smem => 0
  | _ => 0

abbrev hbmTy0_0 (i : Nat) : BufTy := match i % 128 with
  | 0 => ⟨S4x4096x2048, .f32⟩
  | 1 => ⟨S4x4096x2048, .f32⟩
  | 2 => ⟨S_, .f32⟩
  | 3 => ⟨S4x4096, .f32⟩
  | 4 => ⟨S4x4096x1, .f32⟩
  | 5 => ⟨S4x4096x1, .f32⟩
  | 6 => ⟨S_, .f32⟩
  | 7 => ⟨S4x4096x1, .f32⟩
  | 8 => ⟨S4x4096x1, .f32⟩
  | 9 => ⟨S4x4096x2048, .f32⟩
  | 10 => ⟨S4x4096x2048, .f32⟩
  | 11 => ⟨S4x4096x4096, .f32⟩
  | 12 => ⟨S4095, .i32⟩
  | 13 => ⟨S_, .i32⟩
  | 14 => ⟨S4095, .i32⟩
  | 15 => ⟨S4095, .i32⟩
  | 16 => ⟨S_, .i32⟩
  | 17 => ⟨S4095, .i32⟩
  | 18 => ⟨S4095, .i1⟩
  | 19 => ⟨S_, .i32⟩
  | 20 => ⟨S4095, .i32⟩
  | 21 => ⟨S4095, .i32⟩
  | 22 => ⟨S4095, .i32⟩
  | 23 => ⟨S_, .i32⟩
  | 24 => ⟨S4095, .i32⟩
  | 25 => ⟨S4095, .i1⟩
  | 26 => ⟨S_, .i32⟩
  | 27 => ⟨S4095, .i32⟩
  | 28 => ⟨S4095, .i32⟩
  | 29 => ⟨S4095, .i32⟩
  | 30 => ⟨S_, .i32⟩
  | 31 => ⟨S4095, .i32⟩
  | 32 => ⟨S4095, .i32⟩
  | 33 => ⟨S4095x1, .i32⟩
  | 34 => ⟨S4095x1, .i32⟩
  | 35 => ⟨S4095x1, .i32⟩
  | 36 => ⟨S4095x3, .i32⟩
  | 37 => ⟨S4095, .f32⟩
  | 38 => ⟨S4095, .f32⟩
  | 39 => ⟨S4095, .i32⟩
  | 40 => ⟨S4095, .f32⟩
  | 41 => ⟨S4095, .i32⟩
  | 42 => ⟨S_, .i1⟩
  | 43 => ⟨S4096, .i1⟩
  | 44 => ⟨S_, .i1⟩
  | 45 => ⟨S4095, .i1⟩
  | 46 => ⟨S_, .i32⟩
  | 47 => ⟨S_, .i32⟩
  | 48 => ⟨S4095, .i32⟩
  | 49 => ⟨S_, .i32⟩
  | 50 => ⟨S4096, .i1⟩
  | 51 => ⟨S4095, .i1⟩
  | 52 => ⟨S_, .i32⟩
  | 53 => ⟨S_, .i32⟩
  | 54 => ⟨S_, .i1⟩
  | 55 => ⟨S1, .i32⟩
  | 56 => ⟨S_, .i32⟩
  | 57 => ⟨S_, .i32⟩
  | 58 => ⟨S_, .i1⟩
  | 59 => ⟨S_, .i32⟩
  | 60 => ⟨S_, .i32⟩
  | 61 => ⟨S_, .i32⟩
  | 62 => ⟨S1, .i1⟩
  | 63 => ⟨S_, .i1⟩
  | 64 => ⟨S_, .i1⟩
  | 65 => ⟨S_, .i32⟩
  | 66 => ⟨S_, .i32⟩
  | 67 => ⟨S_, .i32⟩
  | 68 => ⟨S_, .i1⟩
  | 69 => ⟨S_, .i32⟩
  | 70 => ⟨S_, .i32⟩
  | 71 => ⟨S_, .i32⟩
  | 72 => ⟨S1, .i1⟩
  | 73 => ⟨S_, .i1⟩
  | 74 => ⟨S_, .i1⟩
  | 75 => ⟨S_, .i1⟩
  | 76 => ⟨S_, .i32⟩
  | 77 => ⟨S_, .i1⟩
  | 78 => ⟨S_, .i1⟩
  | 79 => ⟨S_, .i32⟩
  | 80 => ⟨S_, .i1⟩
  | 81 => ⟨S_, .i32⟩
  | 82 => ⟨S_, .i32⟩
  | 83 => ⟨S_, .i32⟩
  | 84 => ⟨S1, .i1⟩
  | 85 => ⟨S_, .i1⟩
  | 86 => ⟨S_, .i1⟩
  | 87 => ⟨S_, .i32⟩
  | 88 => ⟨S_, .i1⟩
  | 89 => ⟨S_, .i32⟩
  | 90 => ⟨S_, .i32⟩
  | 91 => ⟨S_, .i32⟩
  | 92 => ⟨S1, .i32⟩
  | 93 => ⟨S4096, .i1⟩
  | 94 => ⟨S_, .i32⟩
  | 95 => ⟨S_, .i32⟩
  | 96 => ⟨S_, .i32⟩
  | 97 => ⟨S_, .i32⟩
  | 98 => ⟨S_, .i32⟩
  | 99 => ⟨S_, .i1⟩
  | 100 => ⟨S_, .i32⟩
  | 101 => ⟨S_, .i32⟩
  | 102 => ⟨S_, .i32⟩
  | 103 => ⟨S1, .i1⟩
  | 104 => ⟨S_, .i1⟩
  | 105 => ⟨S_, .i1⟩
  | 106 => ⟨S_, .i32⟩
  | 107 => ⟨S_, .i1⟩
  | 108 => ⟨S_, .i32⟩
  | 109 => ⟨S_, .i32⟩
  | 110 => ⟨S_, .i32⟩
  | 111 => ⟨S1, .i32⟩
  | 112 => ⟨S4096, .i1⟩
  | 113 => ⟨S_, .i32⟩
  | 114 => ⟨S_, .i1⟩
  | 115 => ⟨S_, .i32⟩
  | 116 => ⟨S_, .i32⟩
  | 117 => ⟨S_, .i32⟩
  | 118 => ⟨S1, .i32⟩
  | 119 => ⟨S4095, .i1⟩
  | 120 => ⟨S_, .i32⟩
  | 121 => ⟨S_, .i32⟩
  | 122 => ⟨S_, .i32⟩
  | 123 => ⟨S_, .i32⟩
  | 124 => ⟨S_, .i1⟩
  | 125 => ⟨S1, .i1⟩
  | 126 => ⟨S4096, .i1⟩
  | 127 => ⟨S_, .i1⟩
  | _ => ⟨S4x4096x2048, .f32⟩

abbrev hbmTy0_1 (i : Nat) : BufTy := match i % 128 with
  | 0 => ⟨S1, .i1⟩
  | 1 => ⟨S4096, .i1⟩
  | 2 => ⟨S4096, .i1⟩
  | 3 => ⟨S4x4095x2048, .f32⟩
  | 4 => ⟨S4x1x2048, .f32⟩
  | 5 => ⟨S4x4096x2048, .f32⟩
  | 6 => ⟨S4x4096x2048, .f32⟩
  | 7 => ⟨S_, .f32⟩
  | 8 => ⟨S4x4096x2048, .f32⟩
  | 9 => ⟨S4x4096x2048, .f32⟩
  | 10 => ⟨S1x4096x1, .i1⟩
  | 11 => ⟨S4x4096x2048, .i1⟩
  | 12 => ⟨S4x4096x2048, .f32⟩
  | 13 => ⟨S4096, .i32⟩
  | 14 => ⟨S_, .i32⟩
  | 15 => ⟨S_, .i32⟩
  | 16 => ⟨S4096, .i32⟩
  | 17 => ⟨S_, .i32⟩
  | 18 => ⟨S3584, .i32⟩
  | 19 => ⟨S_, .i32⟩
  | 20 => ⟨S4096, .i32⟩
  | 21 => ⟨S4096, .i1⟩
  | 22 => ⟨S_, .i32⟩
  | 23 => ⟨S4096, .i32⟩
  | 24 => ⟨S4096, .i32⟩
  | 25 => ⟨S4096, .i32⟩
  | 26 => ⟨S4096x1, .i32⟩
  | 27 => ⟨S_, .i32⟩
  | 28 => ⟨S4096, .i32⟩
  | 29 => ⟨S3584, .i32⟩
  | 30 => ⟨S_, .i32⟩
  | 31 => ⟨S_, .i32⟩
  | 32 => ⟨S3584, .i32⟩
  | 33 => ⟨S_, .i32⟩
  | 34 => ⟨S_, .i32⟩
  | 35 => ⟨S3584, .i32⟩
  | 36 => ⟨S3584, .i32⟩
  | 37 => ⟨S3584, .i32⟩
  | 38 => ⟨S_, .i32⟩
  | 39 => ⟨S3584, .i32⟩
  | 40 => ⟨S3584, .i1⟩
  | 41 => ⟨S3584, .i32⟩
  | 42 => ⟨S3584, .i32⟩
  | 43 => ⟨S_, .i32⟩
  | 44 => ⟨S3584, .i32⟩
  | 45 => ⟨S3584, .i1⟩
  | 46 => ⟨S3584, .i1⟩
  | 47 => ⟨S_, .i32⟩
  | 48 => ⟨S3584, .i32⟩
  | 49 => ⟨S3584, .i32⟩
  | 50 => ⟨S3584, .i32⟩
  | 51 => ⟨S_, .i32⟩
  | 52 => ⟨S_, .i32⟩
  | 53 => ⟨S_, .i32⟩
  | 54 => ⟨S_, .i1⟩
  | 55 => ⟨S_, .i32⟩
  | 56 => ⟨S_, .i32⟩
  | 57 => ⟨S3584, .i32⟩
  | 58 => ⟨S3584, .i32⟩
  | 59 => ⟨S_, .i32⟩
  | 60 => ⟨S3584, .i32⟩
  | 61 => ⟨S3584, .i1⟩
  | 62 => ⟨S_, .i32⟩
  | 63 => ⟨S3584, .i32⟩
  | 64 => ⟨S3584, .i1⟩
  | 65 => ⟨S_, .i32⟩
  | 66 => ⟨S_, .i1⟩
  | 67 => ⟨S3584, .i1⟩
  | 68 => ⟨S3584, .i1⟩
  | 69 => ⟨S3584, .i1⟩
  | 70 => ⟨S3584, .i32⟩
  | 71 => ⟨S3584, .i32⟩
  | 72 => ⟨S3584, .i32⟩
  | 73 => ⟨S4096, .i32⟩
  | 74 => ⟨S_, .i32⟩
  | 75 => ⟨S_, .i32⟩
  | 76 => ⟨S1, .i32⟩
  | 77 => ⟨S3584, .i32⟩
  | 78 => ⟨S3584, .i32⟩
  | 79 => ⟨S3584, .i1⟩
  | 80 => ⟨S_, .i32⟩
  | 81 => ⟨S1, .i32⟩
  | 82 => ⟨S3584, .i32⟩
  | 83 => ⟨S3584, .i32⟩
  | 84 => ⟨S_, .i32⟩
  | 85 => ⟨S3584, .i32⟩
  | 86 => ⟨S3584, .i1⟩
  | 87 => ⟨S_, .i32⟩
  | 88 => ⟨S3584, .i32⟩
  | 89 => ⟨S3584, .i32⟩
  | 90 => ⟨S3584, .i32⟩
  | 91 => ⟨S3584x1, .i32⟩
  | 92 => ⟨S4x3584x2048, .f32⟩
  | 93 => ⟨S4096, .i32⟩
  | 94 => ⟨S_, .i32⟩
  | 95 => ⟨S_, .i32⟩
  | 96 => ⟨S4096, .i32⟩
  | 97 => ⟨S_, .i32⟩
  | 98 => ⟨S4096, .i32⟩
  | 99 => ⟨S4096, .i32⟩
  | 100 => ⟨S_, .i32⟩
  | 101 => ⟨S4096, .i32⟩
  | 102 => ⟨S4096, .i1⟩
  | 103 => ⟨S_, .i32⟩
  | 104 => ⟨S4096, .i32⟩
  | 105 => ⟨S4096, .i32⟩
  | 106 => ⟨S4096, .i32⟩
  | 107 => ⟨S4096x1, .i32⟩
  | 108 => ⟨S4x4096x2048, .f32⟩
  | _ => ⟨S4x4096x2048, .f32⟩

abbrev hbmTy (i : Nat) : BufTy := match i / 128 with
  | 0 => hbmTy0_0 i
  | 1 => hbmTy0_1 i
  | _ => ⟨S4x4096x2048, .f32⟩

abbrev bufTy : (tb : Table) → Fin (tcTables nBuf tb) → BufTy
  | .hbm, ⟨i, _⟩ => hbmTy i
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_v1 : Ref sig .tc := ⟨.hbm, 3, rfl⟩
abbrev main_call0_v2 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_v15 : Ref sig .tc := ⟨.hbm, 25, rfl⟩
abbrev main_c_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_call1_v0 : Ref sig .tc := ⟨.hbm, 39, rfl⟩
abbrev main_call1_v1_0 : Ref sig .tc := ⟨.hbm, 40, rfl⟩
abbrev main_v27 : Ref sig .tc := ⟨.hbm, 41, rfl⟩
abbrev main_c_5 : Ref sig .tc := ⟨.hbm, 42, rfl⟩
abbrev main_v28 : Ref sig .tc := ⟨.hbm, 43, rfl⟩
abbrev main_c_6 : Ref sig .tc := ⟨.hbm, 44, rfl⟩
abbrev main_v29 : Ref sig .tc := ⟨.hbm, 45, rfl⟩
abbrev main_c_7 : Ref sig .tc := ⟨.hbm, 46, rfl⟩
abbrev main_c_8 : Ref sig .tc := ⟨.hbm, 47, rfl⟩
abbrev main_v30_0 : Ref sig .tc := ⟨.hbm, 48, rfl⟩
abbrev main_v30_1 : Ref sig .tc := ⟨.hbm, 49, rfl⟩
abbrev main_v30_2 : Ref sig .tc := ⟨.hbm, 50, rfl⟩
abbrev main_v30_3 : Ref sig .tc := ⟨.hbm, 51, rfl⟩
abbrev main_v30_4 : Ref sig .tc := ⟨.hbm, 52, rfl⟩
abbrev main_while0c_c_29 : Ref sig .tc := ⟨.hbm, 53, rfl⟩
abbrev main_while0c_v83 : Ref sig .tc := ⟨.hbm, 54, rfl⟩
abbrev main_while0b_call2_v0 : Ref sig .tc := ⟨.hbm, 55, rfl⟩
abbrev main_while0b_v83 : Ref sig .tc := ⟨.hbm, 56, rfl⟩
abbrev main_while0b_c_29 : Ref sig .tc := ⟨.hbm, 57, rfl⟩
abbrev main_while0b_v84 : Ref sig .tc := ⟨.hbm, 58, rfl⟩
abbrev main_while0b_c_30 : Ref sig .tc := ⟨.hbm, 59, rfl⟩
abbrev main_while0b_v85 : Ref sig .tc := ⟨.hbm, 60, rfl⟩
abbrev main_while0b_v86 : Ref sig .tc := ⟨.hbm, 61, rfl⟩
abbrev main_while0b_v87 : Ref sig .tc := ⟨.hbm, 62, rfl⟩
abbrev main_while0b_v88 : Ref sig .tc := ⟨.hbm, 63, rfl⟩
abbrev main_while0b_v89 : Ref sig .tc := ⟨.hbm, 64, rfl⟩
abbrev main_while0b_c_31 : Ref sig .tc := ⟨.hbm, 65, rfl⟩
abbrev main_while0b_v90 : Ref sig .tc := ⟨.hbm, 66, rfl⟩
abbrev main_while0b_c_32 : Ref sig .tc := ⟨.hbm, 67, rfl⟩
abbrev main_while0b_v91 : Ref sig .tc := ⟨.hbm, 68, rfl⟩
abbrev main_while0b_c_33 : Ref sig .tc := ⟨.hbm, 69, rfl⟩
abbrev main_while0b_v92 : Ref sig .tc := ⟨.hbm, 70, rfl⟩
abbrev main_while0b_v93 : Ref sig .tc := ⟨.hbm, 71, rfl⟩
abbrev main_while0b_v94 : Ref sig .tc := ⟨.hbm, 72, rfl⟩
abbrev main_while0b_v95 : Ref sig .tc := ⟨.hbm, 73, rfl⟩
abbrev main_while0b_v96 : Ref sig .tc := ⟨.hbm, 74, rfl⟩
abbrev main_while0b_v97 : Ref sig .tc := ⟨.hbm, 75, rfl⟩
abbrev main_while0b_c_34 : Ref sig .tc := ⟨.hbm, 76, rfl⟩
abbrev main_while0b_v98 : Ref sig .tc := ⟨.hbm, 77, rfl⟩
abbrev main_while0b_v99 : Ref sig .tc := ⟨.hbm, 78, rfl⟩
abbrev main_while0b_c_35 : Ref sig .tc := ⟨.hbm, 79, rfl⟩
abbrev main_while0b_v100 : Ref sig .tc := ⟨.hbm, 80, rfl⟩
abbrev main_while0b_c_36 : Ref sig .tc := ⟨.hbm, 81, rfl⟩
abbrev main_while0b_v101 : Ref sig .tc := ⟨.hbm, 82, rfl⟩
abbrev main_while0b_v102 : Ref sig .tc := ⟨.hbm, 83, rfl⟩
abbrev main_while0b_v103 : Ref sig .tc := ⟨.hbm, 84, rfl⟩
abbrev main_while0b_v104 : Ref sig .tc := ⟨.hbm, 85, rfl⟩
abbrev main_while0b_v105 : Ref sig .tc := ⟨.hbm, 86, rfl⟩
abbrev main_while0b_c_37 : Ref sig .tc := ⟨.hbm, 87, rfl⟩
abbrev main_while0b_v106 : Ref sig .tc := ⟨.hbm, 88, rfl⟩
abbrev main_while0b_c_38 : Ref sig .tc := ⟨.hbm, 89, rfl⟩
abbrev main_while0b_v107 : Ref sig .tc := ⟨.hbm, 90, rfl⟩
abbrev main_while0b_v108 : Ref sig .tc := ⟨.hbm, 91, rfl⟩
abbrev main_while0b_v109 : Ref sig .tc := ⟨.hbm, 92, rfl⟩
abbrev main_while0b_v110 : Ref sig .tc := ⟨.hbm, 93, rfl⟩
abbrev main_while0b_c_39 : Ref sig .tc := ⟨.hbm, 94, rfl⟩
abbrev main_while0b_v111 : Ref sig .tc := ⟨.hbm, 95, rfl⟩
abbrev main_while0b_c_40 : Ref sig .tc := ⟨.hbm, 96, rfl⟩
abbrev main_while0b_v112 : Ref sig .tc := ⟨.hbm, 97, rfl⟩
abbrev main_while0b_c_41 : Ref sig .tc := ⟨.hbm, 98, rfl⟩
abbrev main_while0b_v113 : Ref sig .tc := ⟨.hbm, 99, rfl⟩
abbrev main_while0b_c_42 : Ref sig .tc := ⟨.hbm, 100, rfl⟩
abbrev main_while0b_v114 : Ref sig .tc := ⟨.hbm, 101, rfl⟩
abbrev main_while0b_v115 : Ref sig .tc := ⟨.hbm, 102, rfl⟩
abbrev main_while0b_v116 : Ref sig .tc := ⟨.hbm, 103, rfl⟩
abbrev main_while0b_v117 : Ref sig .tc := ⟨.hbm, 104, rfl⟩
abbrev main_while0b_v118 : Ref sig .tc := ⟨.hbm, 105, rfl⟩
abbrev main_while0b_c_43 : Ref sig .tc := ⟨.hbm, 106, rfl⟩
abbrev main_while0b_v119 : Ref sig .tc := ⟨.hbm, 107, rfl⟩
abbrev main_while0b_c_44 : Ref sig .tc := ⟨.hbm, 108, rfl⟩
abbrev main_while0b_v120 : Ref sig .tc := ⟨.hbm, 109, rfl⟩
abbrev main_while0b_v121 : Ref sig .tc := ⟨.hbm, 110, rfl⟩
abbrev main_while0b_v122 : Ref sig .tc := ⟨.hbm, 111, rfl⟩
abbrev main_while0b_v123 : Ref sig .tc := ⟨.hbm, 112, rfl⟩
abbrev main_while0b_c_45 : Ref sig .tc := ⟨.hbm, 113, rfl⟩
abbrev main_while0b_v124 : Ref sig .tc := ⟨.hbm, 114, rfl⟩
abbrev main_while0b_c_46 : Ref sig .tc := ⟨.hbm, 115, rfl⟩
abbrev main_while0b_v125 : Ref sig .tc := ⟨.hbm, 116, rfl⟩
abbrev main_while0b_v126 : Ref sig .tc := ⟨.hbm, 117, rfl⟩
abbrev main_while0b_v127 : Ref sig .tc := ⟨.hbm, 118, rfl⟩
abbrev main_while0b_v128 : Ref sig .tc := ⟨.hbm, 119, rfl⟩
abbrev main_while0b_v129 : Ref sig .tc := ⟨.hbm, 120, rfl⟩
abbrev main_while0b_v130 : Ref sig .tc := ⟨.hbm, 121, rfl⟩
abbrev main_while0b_c_47 : Ref sig .tc := ⟨.hbm, 122, rfl⟩
abbrev main_while0b_v131 : Ref sig .tc := ⟨.hbm, 123, rfl⟩
abbrev main_c_9 : Ref sig .tc := ⟨.hbm, 124, rfl⟩
abbrev main_v31 : Ref sig .tc := ⟨.hbm, 125, rfl⟩
abbrev main_v32 : Ref sig .tc := ⟨.hbm, 126, rfl⟩
abbrev main_c_10 : Ref sig .tc := ⟨.hbm, 127, rfl⟩
abbrev main_v33 : Ref sig .tc := ⟨.hbm, 128, rfl⟩
abbrev main_v34 : Ref sig .tc := ⟨.hbm, 129, rfl⟩
abbrev main_v35 : Ref sig .tc := ⟨.hbm, 130, rfl⟩
abbrev main_v36 : Ref sig .tc := ⟨.hbm, 131, rfl⟩
abbrev main_v37 : Ref sig .tc := ⟨.hbm, 132, rfl⟩
abbrev main_v38 : Ref sig .tc := ⟨.hbm, 133, rfl⟩
abbrev main_v39 : Ref sig .tc := ⟨.hbm, 134, rfl⟩
abbrev main_cst_11 : Ref sig .tc := ⟨.hbm, 135, rfl⟩
abbrev main_v40 : Ref sig .tc := ⟨.hbm, 136, rfl⟩
abbrev main_v41 : Ref sig .tc := ⟨.hbm, 137, rfl⟩
abbrev main_v42 : Ref sig .tc := ⟨.hbm, 138, rfl⟩
abbrev main_call3_v0 : Ref sig .tc := ⟨.hbm, 139, rfl⟩
abbrev main_v43 : Ref sig .tc := ⟨.hbm, 140, rfl⟩
abbrev main_call4_v0 : Ref sig .tc := ⟨.hbm, 141, rfl⟩
abbrev main_call4_call0_c : Ref sig .tc := ⟨.hbm, 142, rfl⟩
abbrev main_call4_call0_v0 : Ref sig .tc := ⟨.hbm, 143, rfl⟩
abbrev main_v44 : Ref sig .tc := ⟨.hbm, 144, rfl⟩
abbrev main_c_12 : Ref sig .tc := ⟨.hbm, 145, rfl⟩
abbrev main_v45 : Ref sig .tc := ⟨.hbm, 146, rfl⟩
abbrev main_c_13 : Ref sig .tc := ⟨.hbm, 147, rfl⟩
abbrev main_v46 : Ref sig .tc := ⟨.hbm, 148, rfl⟩
abbrev main_v47 : Ref sig .tc := ⟨.hbm, 149, rfl⟩
abbrev main_c_14 : Ref sig .tc := ⟨.hbm, 150, rfl⟩
abbrev main_v48 : Ref sig .tc := ⟨.hbm, 151, rfl⟩
abbrev main_v49 : Ref sig .tc := ⟨.hbm, 152, rfl⟩
abbrev main_v50 : Ref sig .tc := ⟨.hbm, 153, rfl⟩
abbrev main_v51 : Ref sig .tc := ⟨.hbm, 154, rfl⟩
abbrev main_c_15 : Ref sig .tc := ⟨.hbm, 155, rfl⟩
abbrev main_v52 : Ref sig .tc := ⟨.hbm, 156, rfl⟩
abbrev main_v53 : Ref sig .tc := ⟨.hbm, 157, rfl⟩
abbrev main_call5_call0_c : Ref sig .tc := ⟨.hbm, 158, rfl⟩
abbrev main_call5_call0_v0 : Ref sig .tc := ⟨.hbm, 159, rfl⟩
abbrev main_v54 : Ref sig .tc := ⟨.hbm, 160, rfl⟩
abbrev main_c_16 : Ref sig .tc := ⟨.hbm, 161, rfl⟩
abbrev main_call6_v0 : Ref sig .tc := ⟨.hbm, 162, rfl⟩
abbrev main_call6_v1 : Ref sig .tc := ⟨.hbm, 163, rfl⟩
abbrev main_call6_v2 : Ref sig .tc := ⟨.hbm, 164, rfl⟩
abbrev main_call6_v3 : Ref sig .tc := ⟨.hbm, 165, rfl⟩
abbrev main_call6_v4 : Ref sig .tc := ⟨.hbm, 166, rfl⟩
abbrev main_call6_v5 : Ref sig .tc := ⟨.hbm, 167, rfl⟩
abbrev main_call6_v6 : Ref sig .tc := ⟨.hbm, 168, rfl⟩
abbrev main_call6_v7 : Ref sig .tc := ⟨.hbm, 169, rfl⟩
abbrev main_call6_v8 : Ref sig .tc := ⟨.hbm, 170, rfl⟩
abbrev main_call6_c : Ref sig .tc := ⟨.hbm, 171, rfl⟩
abbrev main_call6_v9 : Ref sig .tc := ⟨.hbm, 172, rfl⟩
abbrev main_call6_v10 : Ref sig .tc := ⟨.hbm, 173, rfl⟩
abbrev main_call6_v11 : Ref sig .tc := ⟨.hbm, 174, rfl⟩
abbrev main_call6_c_0 : Ref sig .tc := ⟨.hbm, 175, rfl⟩
abbrev main_call6_v12 : Ref sig .tc := ⟨.hbm, 176, rfl⟩
abbrev main_call6_v13 : Ref sig .tc := ⟨.hbm, 177, rfl⟩
abbrev main_v55 : Ref sig .tc := ⟨.hbm, 178, rfl⟩
abbrev main_c_17 : Ref sig .tc := ⟨.hbm, 179, rfl⟩
abbrev main_call7_v0 : Ref sig .tc := ⟨.hbm, 180, rfl⟩
abbrev main_call7_c : Ref sig .tc := ⟨.hbm, 181, rfl⟩
abbrev main_call7_v1 : Ref sig .tc := ⟨.hbm, 182, rfl⟩
abbrev main_call7_c_0 : Ref sig .tc := ⟨.hbm, 183, rfl⟩
abbrev main_call7_v2 : Ref sig .tc := ⟨.hbm, 184, rfl⟩
abbrev main_call7_v3 : Ref sig .tc := ⟨.hbm, 185, rfl⟩
abbrev main_call7_v4 : Ref sig .tc := ⟨.hbm, 186, rfl⟩
abbrev main_call7_c_1 : Ref sig .tc := ⟨.hbm, 187, rfl⟩
abbrev main_call7_v5 : Ref sig .tc := ⟨.hbm, 188, rfl⟩
abbrev main_call7_v6 : Ref sig .tc := ⟨.hbm, 189, rfl⟩
abbrev main_call7_c_2 : Ref sig .tc := ⟨.hbm, 190, rfl⟩
abbrev main_call7_v7 : Ref sig .tc := ⟨.hbm, 191, rfl⟩
abbrev main_call7_v8 : Ref sig .tc := ⟨.hbm, 192, rfl⟩
abbrev main_call7_c_3 : Ref sig .tc := ⟨.hbm, 193, rfl⟩
abbrev main_call7_v9 : Ref sig .tc := ⟨.hbm, 194, rfl⟩
abbrev main_call7_v10 : Ref sig .tc := ⟨.hbm, 195, rfl⟩
abbrev main_call7_v11 : Ref sig .tc := ⟨.hbm, 196, rfl⟩
abbrev main_call7_v12 : Ref sig .tc := ⟨.hbm, 197, rfl⟩
abbrev main_call7_v13 : Ref sig .tc := ⟨.hbm, 198, rfl⟩
abbrev main_call7_v14 : Ref sig .tc := ⟨.hbm, 199, rfl⟩
abbrev main_v56 : Ref sig .tc := ⟨.hbm, 200, rfl⟩
abbrev main_v57 : Ref sig .tc := ⟨.hbm, 201, rfl⟩
abbrev main_c_18 : Ref sig .tc := ⟨.hbm, 202, rfl⟩
abbrev main_v58 : Ref sig .tc := ⟨.hbm, 203, rfl⟩
abbrev main_v59 : Ref sig .tc := ⟨.hbm, 204, rfl⟩
abbrev main_v60 : Ref sig .tc := ⟨.hbm, 205, rfl⟩
abbrev main_v61 : Ref sig .tc := ⟨.hbm, 206, rfl⟩
abbrev main_v62 : Ref sig .tc := ⟨.hbm, 207, rfl⟩
abbrev main_c_19 : Ref sig .tc := ⟨.hbm, 208, rfl⟩
abbrev main_v63 : Ref sig .tc := ⟨.hbm, 209, rfl⟩
abbrev main_call8_v0 : Ref sig .tc := ⟨.hbm, 210, rfl⟩
abbrev main_v64 : Ref sig .tc := ⟨.hbm, 211, rfl⟩
abbrev main_c_20 : Ref sig .tc := ⟨.hbm, 212, rfl⟩
abbrev main_v65 : Ref sig .tc := ⟨.hbm, 213, rfl⟩
abbrev main_v66 : Ref sig .tc := ⟨.hbm, 214, rfl⟩
abbrev main_c_21 : Ref sig .tc := ⟨.hbm, 215, rfl⟩
abbrev main_v67 : Ref sig .tc := ⟨.hbm, 216, rfl⟩
abbrev main_v68 : Ref sig .tc := ⟨.hbm, 217, rfl⟩
abbrev main_v69 : Ref sig .tc := ⟨.hbm, 218, rfl⟩
abbrev main_v70 : Ref sig .tc := ⟨.hbm, 219, rfl⟩
abbrev main_v71 : Ref sig .tc := ⟨.hbm, 220, rfl⟩
abbrev main_v72 : Ref sig .tc := ⟨.hbm, 221, rfl⟩
abbrev main_call9_call0_c : Ref sig .tc := ⟨.hbm, 222, rfl⟩
abbrev main_call9_call0_v0 : Ref sig .tc := ⟨.hbm, 223, rfl⟩
abbrev main_v73 : Ref sig .tc := ⟨.hbm, 224, rfl⟩
abbrev main_c_22 : Ref sig .tc := ⟨.hbm, 225, rfl⟩
abbrev main_v74 : Ref sig .tc := ⟨.hbm, 226, rfl⟩
abbrev main_v75 : Ref sig .tc := ⟨.hbm, 227, rfl⟩
abbrev main_c_23 : Ref sig .tc := ⟨.hbm, 228, rfl⟩
abbrev main_v76 : Ref sig .tc := ⟨.hbm, 229, rfl⟩
abbrev main_v77 : Ref sig .tc := ⟨.hbm, 230, rfl⟩
abbrev main_c_24 : Ref sig .tc := ⟨.hbm, 231, rfl⟩
abbrev main_v78 : Ref sig .tc := ⟨.hbm, 232, rfl⟩
abbrev main_v79 : Ref sig .tc := ⟨.hbm, 233, rfl⟩
abbrev main_v80 : Ref sig .tc := ⟨.hbm, 234, rfl⟩
abbrev main_v81 : Ref sig .tc := ⟨.hbm, 235, rfl⟩
abbrev main_v82 : Ref sig .tc := ⟨.hbm, 236, rfl⟩

abbrev nD : Nat := 1
abbrev τ : Topo := Topo.v7x

variable {F : FTy → Type} [FloatOps F]

abbrev main_while0_count : Scf.Loop 32 := ⟨0#32, 4095#32, 1#32⟩
-- ==== Proof.KI.Common.lean ====
/- What the kernel's run is stated over: the resource algebra, the call variants of the kernel's loop. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import Idealize.ShloMosaic.Lib.Pipeline.FrameBody
public import Idealize.ShloMosaic.Lib.Pipeline.RegionArraysS
public import Idealize.ShloMosaic.Lib.Tactic
public import Idealize.ShloMosaic.Lib.Exec
public import Idealize.ShloMosaic.Lib.VecWindow

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost algebra: the pipelines' rounds alone. -/
abbrev UU : Type := URounds (GSem nD τ sig) Unit

local notation "𝕄" => MT nD τ sig Unit (Elt F) ℕ UU ℕ

/-- A call of the kernel's loop is entered with the number of calls still allowed. -/
abbrev 𝒱₀ : Variants := Variants.nat

/-- The contents of every buffer of every core. -/
abbrev Vals (F : FTy → Type) : Type := (c : Dev nD) → (b : Ref sig .tc) → Buf (Elt F) ((c : Thread nD τ).loc b)

end Cert.KernelIdeal.Hand

end
-- ==== Proof.KI.Region0.lean ====
/- The first call: each grid point writes the adjacent-row products of its 128 rows. -/
module

public import proofs.«01_k».proof.Proof.KI.Common

@[expose] public section

noncomputable section

namespace Cert.KernelIdeal.Hand.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The body leaves its operands and writes the payload of its one store over the result block. -/
theorem spec (c : Dev nD) (i : grid0.Coords) (arg1 : Memref sig .tc .vmem S128x2048 .f32) (h1 : arg1.IsWhole) (arg2 : Memref sig .tc .vmem S1x1x2048 .f32) (h2 : arg2.IsWhole) (arg3 : Memref sig .tc .vmem S1x128x1 .f32) (h3 : arg3.IsWhole)
    (x0 : Vec F S128x2048 .f32) (x1 : Vec F S1x1x2048 .f32) (E : Set ℕ) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (k0_pay1 i x0 x1)) -∗ K ⟨⟩))
      ⊢ wp frame (wpE (defs₀ (F := F)) 𝒱₀ c none) E (cc0_tome_adj i arg1 h1 arg2 h2 arg3 h3) K := by
  simp only [cc0_tome_adj_eq_skeleton]; unfold cc0_tome_adj_skel
  unfold owns
  iintro ⟨⟨%f0, %hf0, H0⟩, ⟨%f1, %hf1, H1⟩, ⟨%d, %f, -, H2⟩, Hk⟩
  obtain rfl := h1.eq_unread hf0; obtain rfl := h2.eq_unread hf1
  sl_exec
  sl_step
  iapply Hk
  isplitl [H0]
  · iexists _; isplitr; · ipureintro; exact h1.read_unread _
    iexact H0
  isplitl [H1]
  · iexists _; isplitr; · ipureintro; exact h2.read_unread _
    iexact H1
  iexists _; isplitr; swap; · iexact H2
  ipureintro
  rw [View.read_writes_full, View.readAt_full, View.readAt_full, h1.read_unread, h2.read_unread]

variable (V : Vals F)

/-- Window `w`'s block at point `t` of the array the call finds. -/
def blk (c : Dev nD) (w : Fin (cfg0 (F := F)).W) (t : Fin (cfg0 (F := F)).N) :
    (((cfg0 (F := F)).win w).xblock ((cfg0 (F := F)).grid.coords t)).Idx → Elt F ((cfg0 (F := F)).win w).elt :=
  (((cfg0 (F := F)).win w).blk t).view.read (Elt F) (V c (Pipeline.arrRef spec0 w))

/-- The result block the body writes at point `t`. -/
def res (c : Dev nD) (t : Fin (cfg0 (F := F)).N) : Vec F S1x128x1 .f32 :=
  k0_pay1 (grid0.coords t) (blk V c 0 t) (blk V c 1 t)

/-- The call's proof data: arrays as found, operands left, the result block `res`. -/
def dat (c : Dev nD) : Dat τ (Elt F) Unit ℕ UU ℕ (cfg0 (F := F)) c where
  A w := V c (Pipeline.arrRef spec0 w)
  after w t := match w with
    | ⟨0, _⟩ => blk V c 0 t
    | ⟨1, _⟩ => blk V c 1 t
    | ⟨2, _⟩ => res V c t
  Φ _ := Pipeline.scopedRest (Ix := Unit) (Name := ℕ) (U := UU) (Lvl := ℕ) (Val := Elt F) spec0 c
  q _ := fullShare
  owed _ := 0

theorem after_0 (c : Dev nD) (t : Fin (cfg0 (F := F)).N) : (dat V c).after 0 t = blk V c 0 t := rfl
/-- Operand 0's staging buffer holds its block whenever the body runs. -/
theorem before_0 (c : Dev nD) (t : Fin (cfg0 (F := F)).N) (d) : (dat V c).before 0 t d = blk V c 0 t :=
  ((dat V c).before_in_eq_fetched 0 rfl (fun _ => rfl) (fun _ _ _ => rfl) (fun t => by rw [after_0]; rfl) t d).trans rfl
theorem after_1 (c : Dev nD) (t : Fin (cfg0 (F := F)).N) : (dat V c).after 1 t = blk V c 1 t := rfl
/-- Operand 1's staging buffer holds its block whenever the body runs. -/
theorem before_1 (c : Dev nD) (t : Fin (cfg0 (F := F)).N) (d) : (dat V c).before 1 t d = blk V c 1 t :=
  ((dat V c).before_in_eq_fetched 1 rfl (fun _ => rfl) (fun _ _ _ => rfl) (fun t => by rw [after_1]; rfl) t d).trans rfl
theorem after_2 (c : Dev nD) (t : Fin (cfg0 (F := F)).N) : (dat V c).after 2 t = res V c t := rfl

/-- The body runs at every point from the staged blocks to the result block. -/
theorem body_obligation (c : Dev nD) : BodyObligation (dat V c) (defs₀ (F := F)) 𝒱₀ () Set.univ := fun t => by
  rw [bigSep_W0, bigSep_W0]
  rw [show defs₀ (F := F) .tc (cfg0 (F := F)).body ((cfg0 (F := F)).bodyArgs t ((cfg0 (F := F)).slots t)) = bodyAt0 t by
    unfold defs₀; rw [Defs.onTc_tc]]
  unfold bodyAt0
  rw [after_0, after_1, after_2]
  rw [show (dat V c).Φ t.succ = (dat V c).Φ t.castSucc from rfl,
    show (dat V c).owesAt () t.succ = (dat V c).owesAt () t.castSucc from rfl]
  unfold res
  iintro ⟨HΦ, Ho, ⟨%d0, H0⟩, ⟨%d1, H1⟩, ⟨%d2, H2⟩⟩
  rw [before_0 V c t d0, before_1 V c t d1]
  iapply (spec c (grid0.coords t) _ _ _ _ _ _ (blk V c 0 t) (blk V c 1 t) Set.univ _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end Cert.KernelIdeal.Hand.R0

end
-- ==== Proof.KI.Region1.lean ====
/- The second call: each grid point writes the ranks of its 128 products. -/
module

public import proofs.«01_k».proof.Proof.KI.Common

@[expose] public section

noncomputable section

namespace Cert.KernelIdeal.Hand.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The body leaves its operands and writes the payload of its one store over the result block. -/
theorem spec (c : Dev nD) (i : grid1.Coords) (arg1 : Memref sig .tc .vmem S1x128x1 .f32) (h1 : arg1.IsWhole) (arg2 : Memref sig .tc .vmem S1x4096 .f32) (h2 : arg2.IsWhole) (arg3 : Memref sig .tc .vmem S1x128x1 .i32) (h3 : arg3.IsWhole)
    (x0 : Vec F S1x128x1 .f32) (x1 : Vec F S1x4096 .f32) (E : Set ℕ) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (k1_pay1 i x0 x1)) -∗ K ⟨⟩))
      ⊢ wp frame (wpE (defs₀ (F := F)) 𝒱₀ c none) E (cc1_tome_rank i arg1 h1 arg2 h2 arg3 h3) K := by
  simp only [cc1_tome_rank_eq_skeleton]; unfold cc1_tome_rank_skel
  unfold owns
  iintro ⟨⟨%f0, %hf0, H0⟩, ⟨%f1, %hf1, H1⟩, ⟨%d, %f, -, H2⟩, Hk⟩
  obtain rfl := h1.eq_unread hf0; obtain rfl := h2.eq_unread hf1
  sl_exec
  sl_step
  iapply Hk
  isplitl [H0]
  · iexists _; isplitr; · ipureintro; exact h1.read_unread _
    iexact H0
  isplitl [H1]
  · iexists _; isplitr; · ipureintro; exact h2.read_unread _
    iexact H1
  iexists _; isplitr; swap; · iexact H2
  ipureintro
  rw [View.read_writes_full, View.readAt_full, View.readAt_full, h1.read_unread, h2.read_unread]

variable (V : Vals F)

/-- Window `w`'s block at point `t` of the array the call finds. -/
def blk (c : Dev nD) (w : Fin (cfg1 (F := F)).W) (t : Fin (cfg1 (F := F)).N) :
    (((cfg1 (F := F)).win w).xblock ((cfg1 (F := F)).grid.coords t)).Idx → Elt F ((cfg1 (F := F)).win w).elt :=
  (((cfg1 (F := F)).win w).blk t).view.read (Elt F) (V c (Pipeline.arrRef spec1 w))

/-- The result block the body writes at point `t`. -/
def res (c : Dev nD) (t : Fin (cfg1 (F := F)).N) : Vec F S1x128x1 .i32 :=
  k1_pay1 (grid1.coords t) (blk V c 0 t) (blk V c 1 t)

/-- The call's proof data: arrays as found, operands left, the result block `res`. -/
def dat (c : Dev nD) : Dat τ (Elt F) Unit ℕ UU ℕ (cfg1 (F := F)) c where
  A w := V c (Pipeline.arrRef spec1 w)
  after w t := match w with
    | ⟨0, _⟩ => blk V c 0 t
    | ⟨1, _⟩ => blk V c 1 t
    | ⟨2, _⟩ => res V c t
  Φ _ := Pipeline.scopedRest (Ix := Unit) (Name := ℕ) (U := UU) (Lvl := ℕ) (Val := Elt F) spec1 c
  q _ := fullShare
  owed _ := 0

theorem after_0 (c : Dev nD) (t : Fin (cfg1 (F := F)).N) : (dat V c).after 0 t = blk V c 0 t := rfl
/-- Operand 0's staging buffer holds its block whenever the body runs. -/
theorem before_0 (c : Dev nD) (t : Fin (cfg1 (F := F)).N) (d) : (dat V c).before 0 t d = blk V c 0 t :=
  ((dat V c).before_in_eq_fetched 0 rfl (fun _ => rfl) (fun _ _ _ => rfl) (fun t => by rw [after_0]; rfl) t d).trans rfl
theorem after_1 (c : Dev nD) (t : Fin (cfg1 (F := F)).N) : (dat V c).after 1 t = blk V c 1 t := rfl
/-- Operand 1's staging buffer holds its block whenever the body runs. -/
theorem before_1 (c : Dev nD) (t : Fin (cfg1 (F := F)).N) (d) : (dat V c).before 1 t d = blk V c 1 t :=
  ((dat V c).before_in_eq_fetched 1 rfl (fun _ => rfl) (fun _ _ _ => rfl) (fun t => by rw [after_1]; rfl) t d).trans rfl
theorem after_2 (c : Dev nD) (t : Fin (cfg1 (F := F)).N) : (dat V c).after 2 t = res V c t := rfl

/-- The body runs at every point from the staged blocks to the result block. -/
theorem body_obligation (c : Dev nD) : BodyObligation (dat V c) (defs₀ (F := F)) 𝒱₀ () Set.univ := fun t => by
  rw [bigSep_W1, bigSep_W1]
  rw [show defs₀ (F := F) .tc (cfg1 (F := F)).body ((cfg1 (F := F)).bodyArgs t ((cfg1 (F := F)).slots t)) = bodyAt1 t by
    unfold defs₀; rw [Defs.onTc_tc]]
  unfold bodyAt1
  rw [after_0, after_1, after_2]
  rw [show (dat V c).Φ t.succ = (dat V c).Φ t.castSucc from rfl,
    show (dat V c).owesAt () t.succ = (dat V c).owesAt () t.castSucc from rfl]
  unfold res
  iintro ⟨HΦ, Ho, ⟨%d0, H0⟩, ⟨%d1, H1⟩, ⟨%d2, H2⟩⟩
  rw [before_0 V c t d0, before_1 V c t d1]
  iapply (spec c (grid1.coords t) _ _ _ _ _ _ (blk V c 0 t) (blk V c 1 t) Set.univ _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end Cert.KernelIdeal.Hand.R1

end
-- ==== Proof.KI.Cells.lean ====
/- One word of a scalar-memory buffer loaded or stored, over what the buffer holds as a vector of words. -/
module

public import proofs.«01_k».proof.Proof.KI.Common
public import Idealize.ShloMosaic.Lib.CellWrites

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The word read at one place of a vector. -/
theorem read_cell {sg : RefSig} {κ : Kind} {sp : Space} {e : EltTy} {Val : EltTy → Type} {d : Fin 1 → ℕ}
    (v : View sg κ sp (⟨1, d⟩ : Shape) e) (f : v.ty.Contents Val) {off : Fin 1 → ℕ}
    (inb : ∀ a, off a + (![1] : Fin 1 → ℕ) a ≤ (⟨1, d⟩ : Shape).size a) (x) (y : (⟨1, d⟩ : Shape).Idx) (hy : (y 0).val = off 0) :
    (v.slice (Rect.unit (s := ⟨1, d⟩) off ![1] inb)).read Val f x = v.read Val f y := by
  show v.read Val f ((Rect.unit (s := ⟨1, d⟩) off ![1] inb).emb x) = _
  congr 1
  funext a
  fin_cases a
  refine Fin.ext ?_
  have hx : (x 0).val = 0 := by
    have := (x 0).isLt
    have e : (Rect.unit (s := ⟨1, d⟩) off ![1] inb).shape.size 0 = 1 := rfl
    omega
  show off 0 + 1 * (x 0).val = (y 0).val
  omega

/-- The vector after one word is stored. -/
theorem read_write_cell {sg : RefSig} {κ : Kind} {sp : Space} {e : EltTy} {Val : EltTy → Type} {d : Fin 1 → ℕ}
    (v : View sg κ sp (⟨1, d⟩ : Shape) e) (f : v.ty.Contents Val) {off : Fin 1 → ℕ}
    (inb : ∀ a, off a + (![1] : Fin 1 → ℕ) a ≤ (⟨1, d⟩ : Shape).size a) (p : Val e) (y : (⟨1, d⟩ : Shape).Idx) :
    v.read Val ((v.slice (Rect.unit (s := ⟨1, d⟩) off ![1] inb)).write Val f (fun _ => p) Finset.univ) y
      = if (y 0).val = off 0 then p else v.read Val f y :=
  View.read_writes_cons_cell v f inb p [] y

/-- A load of one word of a vector: the continuation gets the word there. -/
theorem wp_cell_load {β : Type} (c : Dev nD) (bd : Option 𝒱₀.V) (E : Set ℕ) {n : ℕ}
    (m : Memref sig .tc .smem (⟨1, ![n]⟩ : Shape) .i32) {off : Fin 1 → ℕ}
    (inb : ∀ a, off a + S1.size a ≤ (⟨1, ![n]⟩ : Shape).size a) {h1 hp} (X : (⟨1, ![n]⟩ : Shape).Idx → Elt F .i32)
    (y : (⟨1, ![n]⟩ : Shape).Idx) (hy : (y 0).val = off 0)
    (k : Elt F .i32 → Prog (TpuEff nD τ sig (Elt F) (Λ₀ F) .tc) β) (Q : β → sProp 𝕄) :
    owns (c : Thread nD τ) m fullShare X
      ⊢ iprop((owns (c : Thread nD τ) m fullShare X -∗ wp frame (wpE (defs₀ (F := F)) 𝒱₀ (c : Thread nD τ) bd) E (k (X y)) Q)
        -∗ wp frame (wpE (defs₀ (F := F)) 𝒱₀ (c : Thread nD τ) bd) E
            (smemLoad m (Rect.unit (s := ⟨1, ![n]⟩) off S1.size inb) h1 hp >>= k) Q) := by
  unfold owns
  iintro ⟨%f, %hf, H⟩ Hk
  have hr : ∀ x, (m.access (Rect.unit (s := ⟨1, ![n]⟩) off S1.size inb)).read (Elt F) f x = X y := fun x =>
    (read_cell m.view f inb x y hy).trans (congrFun hf y)
  unfold smemLoad
  rw [smemLoadElt_bind]
  simp only [Prog.bind_ret]
  generalize Shape.Idx.first _ = x0
  iapply (wp_smemLoadElt 𝒱₀ (c : Thread nD τ) bd E (m := m) (r := Rect.unit (s := ⟨1, ![n]⟩) off S1.size inb) (View.set_slice_subset _ _)) $$ H; iintro H
  rw [hr x0]
  iapply Hk
  iexists f; isplitr
  · ipureintro; exact hf
  · iexact H

/-- A store of one word into a vector. -/
theorem wp_cell_store {β : Type} (c : Dev nD) (bd : Option 𝒱₀.V) (E : Set ℕ) {n : ℕ}
    (m : Memref sig .tc .smem (⟨1, ![n]⟩ : Shape) .i32) {off : Fin 1 → ℕ}
    (inb : ∀ a, off a + S1.size a ≤ (⟨1, ![n]⟩ : Shape).size a) {hx hm} (X : (⟨1, ![n]⟩ : Shape).Idx → Elt F .i32)
    (p : Elt F .i32)
    (k : PUnit → Prog (TpuEff nD τ sig (Elt F) (Λ₀ F) .tc) β) (Q : β → sProp 𝕄) :
    owns (c : Thread nD τ) m fullShare X
      ⊢ iprop((owns (c : Thread nD τ) m fullShare (fun y => if (y 0).val = off 0 then p else X y)
          -∗ wp frame (wpE (defs₀ (F := F)) 𝒱₀ (c : Thread nD τ) bd) E (k ⟨⟩) Q)
        -∗ wp frame (wpE (defs₀ (F := F)) 𝒱₀ (c : Thread nD τ) bd) E
            (Prog.lift (.store m (Rect.unit (s := ⟨1, ![n]⟩) off S1.size inb) (fun _ => p) Finset.univ hx hm) >>= k) Q) := by
  unfold owns
  iintro ⟨%f, %hf, H⟩ Hk
  simp only [Prog.lift, Prog.bind_op, Prog.bind_ret]
  iapply (wp_store 𝒱₀ (c : Thread nD τ) bd E (m := m) (r := Rect.unit (s := ⟨1, ![n]⟩) off S1.size inb) (Mk := Finset.univ) (View.set_slice_subset _ _)) $$ H; iintro H
  iapply Hk
  iexists _; isplitr; swap
  · iexact H
  · ipureintro
    funext y
    refine (read_write_cell m.view f inb p y).trans ?_
    split
    · rfl
    · exact congrFun hf y

end Cert.KernelIdeal.Hand

end
-- ==== Proof.Model.lean ====
/- The greedy choice of disjoint adjacent pairs, over plain numbers: which pairs are taken, in which order, and why exactly the wanted
   number of pairs is always found. -/
module

public import Idealize.ShloMosaic.Lib.ValueIdxCore
public import Mathlib.Algebra.Order.BigOperators.Group.Finset

@[expose] public section

noncomputable section

namespace Greedy

/-- Row `j` belongs to a pair `(a, a + 1)` with `a` in the list. -/
def Used (L : List ℕ) (j : ℕ) : Prop := ∃ a ∈ L, a = j ∨ a + 1 = j

open Classical in
/-- Looking at the pair `(i, i + 1)`: it is appended if fewer than `q` pairs are taken and neither row is used yet. -/
def step (q : ℕ) (L : List ℕ) (i : ℕ) : List ℕ := if L.length < q ∧ ¬Used L i ∧ ¬Used L (i + 1) then L ++ [i] else L

/-- The pairs taken after looking at the first `k` candidates of `ord`. -/
def pick (q : ℕ) (ord : ℕ → ℕ) : ℕ → List ℕ
  | 0 => []
  | k + 1 => step q (pick q ord k) (ord k)

theorem used_append (L : List ℕ) (i j : ℕ) : Used (L ++ [i]) j ↔ Used L j ∨ i = j ∨ i + 1 = j := by
  unfold Used
  constructor
  · rintro ⟨a, ha, h⟩
    rcases List.mem_append.mp ha with ha | ha
    · exact .inl ⟨a, ha, h⟩
    · rw [List.mem_singleton.mp ha] at h; exact .inr h
  · rintro (⟨a, ha, h⟩ | h)
    · exact ⟨a, List.mem_append_left _ ha, h⟩
    · exact ⟨i, by simp, h⟩

theorem not_used_nil (j : ℕ) : ¬Used [] j := by rintro ⟨a, ha, -⟩; exact absurd ha List.not_mem_nil

theorem step_taken {q : ℕ} {L : List ℕ} {i : ℕ} (h : L.length < q) (h0 : ¬Used L i) (h1 : ¬Used L (i + 1)) : step q L i = L ++ [i] :=
  if_pos ⟨h, h0, h1⟩

theorem step_full {q : ℕ} {L : List ℕ} (i : ℕ) (h : ¬L.length < q) : step q L i = L := if_neg fun h' => h h'.1

theorem step_used {q : ℕ} {L : List ℕ} {i : ℕ} (h : Used L i ∨ Used L (i + 1)) : step q L i = L :=
  if_neg fun h' => h.elim h'.2.1 h'.2.2

/-- A step appends the candidate or leaves the list. -/
theorem step_cases (q : ℕ) (L : List ℕ) (i : ℕ) :
    (step q L i = L ++ [i] ∧ L.length < q ∧ ¬Used L i ∧ ¬Used L (i + 1)) ∨ step q L i = L := by
  unfold step; split
  · next h => exact .inl ⟨rfl, h⟩
  · exact .inr rfl

theorem pick_length_le (q : ℕ) (ord : ℕ → ℕ) : ∀ k, (pick q ord k).length ≤ q
  | 0 => Nat.zero_le _
  | k + 1 => by
    have ih := pick_length_le q ord k
    rcases step_cases q (pick q ord k) (ord k) with ⟨h, hl, -⟩ | h
    · rw [pick, h, List.length_append]; exact hl
    · rw [pick, h]; exact ih

/-- Everything taken is one of the candidates looked at. -/
theorem mem_pick {q : ℕ} {ord : ℕ → ℕ} : ∀ {k a : ℕ}, a ∈ pick q ord k → ∃ m < k, ord m = a
  | 0, a, h => absurd h List.not_mem_nil
  | k + 1, a, h => by
    rcases step_cases q (pick q ord k) (ord k) with ⟨e, -⟩ | e
    · rw [pick, e] at h
      rcases List.mem_append.mp h with h | h
      · obtain ⟨m, hm, e⟩ := mem_pick h; exact ⟨m, Nat.lt_succ_of_lt hm, e⟩
      · exact ⟨k, Nat.lt_succ_self k, (List.mem_singleton.mp h).symm⟩
    · rw [pick, e] at h
      obtain ⟨m, hm, e⟩ := mem_pick h; exact ⟨m, Nat.lt_succ_of_lt hm, e⟩

/-- Two pairs taken are equal or share no row. -/
theorem pick_apart {q : ℕ} {ord : ℕ → ℕ} : ∀ {k a b : ℕ}, a ∈ pick q ord k → b ∈ pick q ord k → a = b ∨ (a ≠ b + 1 ∧ b ≠ a + 1)
  | 0, a, b, h, _ => absurd h List.not_mem_nil
  | k + 1, a, b, ha, hb => by
    rcases step_cases q (pick q ord k) (ord k) with ⟨e, -, h0, h1⟩ | e
    · rw [pick, e] at ha hb
      have key : ∀ {x}, x ∈ pick q ord k → x ≠ ord k + 1 ∧ ord k ≠ x + 1 := fun {x} hx =>
        ⟨fun h => h1 ⟨x, hx, .inl h⟩, fun h => h0 ⟨x, hx, .inr h.symm⟩⟩
      rcases List.mem_append.mp ha with ha | ha <;> rcases List.mem_append.mp hb with hb | hb
      · exact pick_apart ha hb
      · rw [List.mem_singleton.mp hb]; exact .inr (key ha)
      · rw [List.mem_singleton.mp ha]; exact .inr (key hb).symm
      · exact .inl ((List.mem_singleton.mp ha).trans (List.mem_singleton.mp hb).symm)
    · rw [pick, e] at ha hb; exact pick_apart ha hb

theorem pick_nodup (q : ℕ) (ord : ℕ → ℕ) : ∀ k, (pick q ord k).Nodup
  | 0 => List.nodup_nil
  | k + 1 => by
    have ih := pick_nodup q ord k
    rcases step_cases q (pick q ord k) (ord k) with ⟨e, -, h0, -⟩ | e
    · rw [pick, e]
      refine List.nodup_append.mpr ⟨ih, List.nodup_singleton _, fun a ha b hb hab => ?_⟩
      rw [List.mem_singleton.mp hb] at hab
      exact h0 ⟨a, ha, .inl hab⟩
    · rw [pick, e]; exact ih

/-- Once `q` pairs are taken nothing changes. -/
theorem pick_stays {q : ℕ} {ord : ℕ → ℕ} {k : ℕ} (h : (pick q ord k).length = q) : ∀ n, k ≤ n → pick q ord n = pick q ord k := by
  intro n hn
  induction n, hn using Nat.le_induction with
  | base => rfl
  | succ n _ ih => rw [pick, ih, step_full _ (by omega)]

theorem used_mono (q : ℕ) (ord : ℕ → ℕ) (k j : ℕ) (h : Used (pick q ord k) j) : Used (pick q ord (k + 1)) j := by
  rcases step_cases q (pick q ord k) (ord k) with ⟨e, -⟩ | e
  · rw [pick, e, used_append]; exact .inl h
  · rw [pick, e]; exact h

theorem used_mono' (q : ℕ) (ord : ℕ → ℕ) {k n : ℕ} (hn : k ≤ n) (j : ℕ) (h : Used (pick q ord k) j) : Used (pick q ord n) j := by
  induction n, hn using Nat.le_induction with
  | base => exact h
  | succ n _ ih => exact used_mono q ord n j ih

/-- A candidate looked at while fewer than `q` pairs end up taken has a used row. -/
theorem blocked {q : ℕ} {ord : ℕ → ℕ} {n m : ℕ} (hm : m < n) (hl : (pick q ord n).length < q) :
    Used (pick q ord n) (ord m) ∨ Used (pick q ord n) (ord m + 1) := by
  have hlm : (pick q ord m).length < q := by
    by_contra h
    have e : (pick q ord m).length = q := le_antisymm (pick_length_le q ord m) (by omega)
    rw [pick_stays e n hm.le, e] at hl; exact lt_irrefl _ hl
  by_cases h0 : Used (pick q ord m) (ord m)
  · exact .inl (used_mono' q ord hm.le _ h0)
  by_cases h1 : Used (pick q ord m) (ord m + 1)
  · exact .inr (used_mono' q ord hm.le _ h1)
  refine .inl (used_mono' q ord hm _ ?_)
  rw [pick, step_taken hlm h0 h1, used_append]; exact .inr (.inl rfl)

/-- If every pair below `n` is a candidate and there are more than `3 q` of them, exactly `q` pairs are taken: each pair taken blocks at
    most three candidates. -/
theorem pick_length {q n : ℕ} {ord : ℕ → ℕ} (hsurj : ∀ i < n, ∃ m < n, ord m = i) (hn : 3 * q ≤ n) : (pick q ord n).length = q := by
  rcases lt_or_eq_of_le (pick_length_le q ord n) with hl | he
  · exfalso
    have hcov : Finset.range n ⊆ ((pick q ord n).toFinset.biUnion fun a => {a - 1, a, a + 1}) := by
      intro i hi
      obtain ⟨m, hm, rfl⟩ := hsurj i (Finset.mem_range.mp hi)
      rw [Finset.mem_biUnion]
      rcases blocked hm hl with ⟨a, ha, h⟩ | ⟨a, ha, h⟩ <;> refine ⟨a, List.mem_toFinset.mpr ha, ?_⟩ <;>
        simp only [Finset.mem_insert, Finset.mem_singleton] <;> omega
    have h1 := Finset.card_le_card hcov
    have h2 := (Finset.card_biUnion_le (s := (pick q ord n).toFinset) (t := fun a => ({a - 1, a, a + 1} : Finset ℕ))).trans
      (Finset.sum_le_card_nsmul _ _ 3 fun a _ => Finset.card_le_three)
    rw [smul_eq_mul] at h2
    have h3 := List.toFinset_card_le (pick q ord n)
    rw [Finset.card_range] at h1
    omega
  · exact he

/-- Candidates agree, so do the pairs taken. -/
theorem pick_congr {q : ℕ} {o o' : ℕ → ℕ} : ∀ {n : ℕ}, (∀ m < n, o m = o' m) → pick q o n = pick q o' n
  | 0, _ => rfl
  | n + 1, h => by rw [pick, pick, pick_congr fun m hm => h m (Nat.lt_succ_of_lt hm), h n (Nat.lt_succ_self n)]

/-! ### Ranks and the order they give -/

/-- The ranks are a permutation of the numbers below `N`. -/
structure IsRank (N : ℕ) (rk : ℕ → ℕ) : Prop where
  lt : ∀ i < N, rk i < N
  inj : ∀ i < N, ∀ j < N, rk i = rk j → i = j

open Classical in
/-- The index of rank `k`. -/
def orderOf (N : ℕ) (rk : ℕ → ℕ) (k : ℕ) : ℕ := if h : ∃ i, i < N ∧ rk i = k then h.choose else 0

theorem IsRank.surj {N : ℕ} {rk : ℕ → ℕ} (h : IsRank N rk) {k : ℕ} (hk : k < N) : ∃ i < N, rk i = k := by
  have hi : Function.Injective fun i : Fin N => (⟨rk i, h.lt i i.isLt⟩ : Fin N) := fun i j e =>
    Fin.ext (h.inj i i.isLt j j.isLt (congrArg Fin.val e))
  obtain ⟨i, e⟩ := (Finite.injective_iff_surjective.mp hi) ⟨k, hk⟩
  exact ⟨i, i.isLt, congrArg Fin.val e⟩

theorem IsRank.order {N : ℕ} {rk : ℕ → ℕ} (h : IsRank N rk) {k : ℕ} (hk : k < N) : orderOf N rk k < N ∧ rk (orderOf N rk k) = k := by
  have hs : ∃ i, i < N ∧ rk i = k := h.surj hk
  unfold orderOf
  rw [dif_pos hs]
  exact hs.choose_spec

theorem IsRank.order_rk {N : ℕ} {rk : ℕ → ℕ} (h : IsRank N rk) {i : ℕ} (hi : i < N) : orderOf N rk (rk i) = i :=
  let ⟨h1, h2⟩ := h.order (h.lt i hi)
  h.inj _ h1 _ hi h2

end Greedy

end
-- ==== Proof.KI.Greedy.lean ====
/- The third call: from the ranks of the pairs it lists the pairs in order, walks the list taking every pair whose two rows are both
   unused until 512 are taken, and spreads the choice over two weight blocks. -/
module

public import proofs.«01_k».proof.Proof.KI.Cells
public import proofs.«01_k».proof.Proof.Model
public import Idealize.ShloMosaic.Lib.ValueIdxCore

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Greedy

variable {F : FTy → Type} [FloatOps F]

local notation "𝕄" => MT nD τ sig Unit (Elt F) ℕ UU ℕ

/-! ### What the call computes -/

/-- Entry `i` of a vector of 4096 words, as a number. -/
def rankOf (R : Vec F S4096 .i32) (i : ℕ) : ℕ := if h : i < 4096 then BitVec.toNat (R (ix1 ⟨i, h⟩)) else 0

/-- The 512 pairs taken, in the order they are taken. -/
def taken (R : Vec F S4096 .i32) : List ℕ := pick 512 (orderOf 4096 (rankOf R)) 4096

/-- The words of the list of pairs taken (8192 past its end). -/
def takenWord (R : Vec F S4096 .i32) (j : ℕ) : BitVec 32 := BitVec.ofNat 32 ((taken R).getD j 8192)

/-- The first weight block after `n` words of the list: half is added at each row named. -/
def wsum (s : ℕ → BitVec 32) : ℕ → FVec F S32x128 .f32
  | 0 => k2_pay2
  | n + 1 => k2_pay3 (wsum s n) (s n)

/-- The second weight block after `n` words of the list: half is added at the row after each row named. -/
def wsum' (s : ℕ → BitVec 32) : ℕ → FVec F S32x128 .f32
  | 0 => k2_pay2
  | n + 1 => k2_pay4 (wsum' s n) (s n)

/-- The first weight block the call writes. -/
def wsOf (R : Vec F S4096 .i32) : FVec F S32x128 .f32 := wsum (takenWord R) 512
/-- The second weight block the call writes. -/
def wrOf (R : Vec F S4096 .i32) : FVec F S32x128 .f32 := wsum' (takenWord R) 512

/-! ### The vectors of words the loops keep -/

/-- The order list: entry `k` is the index of rank `k`. -/
def OrdIs (ord : ℕ → ℕ) (X : Vec F S4096 .i32) : Prop := ∀ y, X y = BitVec.ofNat 32 (ord (y 0).val)

open Classical in
/-- The used flags: one for the rows of the pairs taken, zero elsewhere. -/
def UsedIs (L : List ℕ) (X : Vec F S4104 .i32) : Prop := ∀ y, X y = if Used L (y 0).val then 1#32 else 0#32

/-- The list of pairs taken, 8192 past its end. -/
def ListIs (L : List ℕ) (X : Vec F S512 .i32) : Prop := ∀ y, X y = BitVec.ofNat 32 (L.getD (y 0).val 8192)

theorem toInt_small {n : ℕ} (h : n < 2 ^ 31) : (BitVec.ofNat 32 n).toInt = n := by
  rw [BitVec.toInt_eq_toNat_of_lt (by rw [BitVec.toNat_ofNat, Nat.mod_eq_of_lt (by omega)]; omega), BitVec.toNat_ofNat,
    Nat.mod_eq_of_lt (by omega)]

theorem cmpi_slt_small {n k : ℕ} (hn : n < 2 ^ 31) (hk : k < 2 ^ 31) :
    Scalar.cmpi .slt (BitVec.ofNat 32 n) (BitVec.ofNat 32 k) = if n < k then 1#1 else 0#1 := by
  have h : (BitVec.ofNat 32 n).slt (BitVec.ofNat 32 k) = decide (n < k) := by
    rw [BitVec.slt, toInt_small hn, toInt_small hk]
    exact decide_eq_decide.mpr (by omega)
  show BitVec.ofBool ((BitVec.ofNat 32 n).slt (BitVec.ofNat 32 k)) = _
  rw [h]
  by_cases e : n < k
  · rw [if_pos e, decide_eq_true e]; rfl
  · rw [if_neg e, decide_eq_false e]; rfl

theorem iv_eq (k : ℕ) : Scf.iv 0#32 1#32 k = BitVec.ofNat 32 k := by
  unfold Scf.iv; simp

theorem off1_at (k : Fin k2_t1_loop.trips) : k2_off1 k 0 = k.val := by rw [k2_off1_eq]; rfl
theorem off3_at (k : Fin k2_t2_loop.trips) : k2_off3 k 0 = k.val := by rw [k2_off3_eq]; rfl
theorem off4_at (k : Fin k2_t3_loop.trips) : k2_off4 k 0 = k.val := by rw [k2_off4_eq]; rfl
theorem off9_at (k : Fin k2_t4_loop.trips) : k2_off9 k 0 = k.val := by rw [k2_off9_eq]; rfl

/-- An index word below `2 ^ 31` names the place it counts. -/
theorem off_word {n : ℕ} (h : n < 2 ^ 31) : (![(Scalar.indexCast (BitVec.ofNat 32 n) : Index).toNat] : Fin 1 → ℕ) = ![n] := by
  have h0 : Affine.IsInt (BitVec.ofNat 32 n) (n : ℤ) := Affine.ofNat _ (by omega)
  exact Affine.vec_cons (Affine.indexCast h0) (by omega) Affine.vec_nil

theorem off2_eq {n : ℕ} (h : n < 2 ^ 31) : k2_off2 (BitVec.ofNat 32 n) = ![n] := off_word h
theorem off5_eq {n : ℕ} (h : n < 2 ^ 31) : k2_off5 (BitVec.ofNat 32 n) = ![n] := off_word h
theorem off6_eq {n : ℕ} (h : n < 2 ^ 31) : k2_off6 (BitVec.ofNat 32 n) = ![n] := off_word h
theorem off8_eq {n : ℕ} (h : n < 2 ^ 31) : k2_off8 (BitVec.ofNat 32 n) = ![n] := off_word h
theorem addi_one (n : ℕ) : Scalar.addi (BitVec.ofNat 32 n) 1#32 = BitVec.ofNat 32 (n + 1) := by
  show BitVec.ofNat 32 n + BitVec.ofNat 32 1 = _
  rw [← BitVec.ofNat_add]
theorem off7_eq {n : ℕ} (h : n + 1 < 2 ^ 31) : k2_off7 (BitVec.ofNat 32 n) = ![n + 1] := by
  unfold k2_off7; dsimp only; rw [addi_one]; exact off_word h

/-- `assume` of a true proposition at the head of a program. -/
theorem wp_assume_lift {β : Type} (c : Dev nD) (bd : Option 𝒱₀.V) (E : Set ℕ) {P : Prop} {d : Decidable P}
    {k : PLift P → Prog (TpuEff nD τ sig (Elt F) (Λ₀ F) .tc) β} {Q : β → sProp 𝕄} (h : P) :
    wp (M := 𝕄) frame (wpE (defs₀ (F := F)) 𝒱₀ (c : Thread nD τ) bd) E (k ⟨h⟩) Q
      ⊢ wp frame (wpE (defs₀ (F := F)) 𝒱₀ (c : Thread nD τ) bd) E (Prog.lift (TpuEff.assume P d) >>= k) Q :=
  wp_assume 𝒱₀ (c : Thread nD τ) bd E h

section Body

variable (c : Dev nD)
  (arg0 : Memref sig .tc .smem S4096 .i32) (harg0 : arg0.IsWhole) (arg1 : Memref sig .tc .vmem S32x128 .f32) (harg1 : arg1.IsWhole)
  (arg2 : Memref sig .tc .vmem S32x128 .f32) (harg2 : arg2.IsWhole) (arg3 : Memref sig .tc .smem S4096 .i32) (harg3 : arg3.IsWhole)
  (arg4 : Memref sig .tc .smem S4104 .i32) (harg4 : arg4.IsWhole) (arg5 : Memref sig .tc .smem S512 .i32) (harg5 : arg5.IsWhole)

/-! ### The counted loops -/

/-- Before trip `k` of the first loop the first `k` pairs are listed at their ranks. -/
def inv1 (R : Vec F S4096 .i32) (k : ℕ) (_ : Unit) : sProp 𝕄 :=
  iprop(owns (c : Thread nD τ) arg0 fullShare R ∗ ∃ X : Vec F S4096 .i32,
    ⌜∀ y, orderOf 4096 (rankOf R) (y 0).val < k → X y = BitVec.ofNat 32 (orderOf 4096 (rankOf R) (y 0).val)⌝
      ∗ owns (c : Thread nD τ) arg3 fullShare X)

theorem trip1 (E : Set ℕ) (R : Vec F S4096 .i32) (hR : IsRank 4096 (rankOf R)) (k : Fin k2_t1_loop.trips) (u : Unit) :
    inv1 c arg0 arg3 R k.val u ⊢ wp frame (wpE (defs₀ (F := F)) 𝒱₀ (c : Thread nD τ) none) E
      (k2_t1_body arg0 harg0 arg1 harg1 arg2 harg2 arg3 harg3 arg4 harg4 arg5 harg5 k u) (inv1 c arg0 arg3 R (k.val + 1)) := by
  have hk : k.val < 4096 := lt_of_lt_of_le k.isLt k2_t1_abs.2.1
  have hr : R (ix1 ⟨k.val, hk⟩) = BitVec.ofNat 32 (rankOf R k.val) := by
    unfold rankOf; rw [dif_pos hk, BitVec.ofNat_toNat, BitVec.setWidth_eq]
  have hlt := hR.lt k.val hk
  unfold k2_t1_body inv1
  iintro ⟨H0, %X, %hX, H3⟩
  iapply (wp_cell_load c none E arg0 (k2_off1_inb k) R (ix1 ⟨k.val, hk⟩) (off1_at k).symm) $$ H0; iintro H0
  rw [hr]
  have hoff : k2_off2 (BitVec.ofNat 32 (rankOf R k.val)) = ![rankOf R k.val] := off2_eq (by omega)
  have hchk : k2_chk1 (BitVec.ofNat 32 (rankOf R k.val)) := by
    intro a; fin_cases a
    show k2_off2 (BitVec.ofNat 32 (rankOf R k.val)) 0 + 1 ≤ 4096
    rw [hoff]; show rankOf R k.val + 1 ≤ 4096; omega
  iapply (wp_assume_lift c none E hchk)
  iapply (wp_cell_load c none E arg3 (k2_off2_inb _ hchk) X (ix1 ⟨rankOf R k.val, hlt⟩) (by rw [hoff]; rfl)) $$ H3; iintro H3
  iapply (wp_cell_store c none E arg3 (k2_off2_inb _ hchk) X _) $$ H3; iintro H3
  rw [Prog.pure_eq_ret, wp_ret]; imodintro
  isplitl [H0]; · iexact H0
  iexists _; isplitr; swap
  · iexact H3
  ipureintro
  intro y hy
  rw [hoff, iv_eq]
  show (if (y 0).val = rankOf R k.val then _ else _) = _
  split
  · next h => rw [h, hR.order_rk hk]
  · next h =>
    refine hX y (lt_of_le_of_ne (Nat.lt_succ_iff.mp hy) fun e => h ?_)
    rw [← e, (hR.order (y 0).isLt).2]

/-- Before trip `k` of the second loop the first `k` flags are zero. -/
def inv2 (k : ℕ) (_ : Unit) : sProp 𝕄 :=
  iprop(∃ X : Vec F S4104 .i32, ⌜∀ y, (y 0).val < k → X y = 0#32⌝ ∗ owns (c : Thread nD τ) arg4 fullShare X)

theorem trip2 (E : Set ℕ) (k : Fin k2_t2_loop.trips) (u : Unit) :
    inv2 c arg4 k.val u ⊢ wp frame (wpE (defs₀ (F := F)) 𝒱₀ (c : Thread nD τ) none) E
      (k2_t2_body arg0 harg0 arg1 harg1 arg2 harg2 arg3 harg3 arg4 harg4 arg5 harg5 k u) (inv2 c arg4 (k.val + 1)) := by
  have hk : k.val < 4104 := lt_of_lt_of_le k.isLt k2_t2_abs.2.1
  unfold k2_t2_body inv2
  iintro ⟨%X, %hX, H⟩
  iapply (wp_cell_load c none E arg4 (k2_off3_inb k) X (ix1 ⟨k.val, hk⟩) (off3_at k).symm) $$ H; iintro H
  iapply (wp_cell_store c none E arg4 (k2_off3_inb k) X _) $$ H; iintro H
  rw [Prog.pure_eq_ret, wp_ret]; imodintro
  iexists _; isplitr; swap
  · iexact H
  ipureintro
  intro y hy
  rw [off3_at]
  split
  · rfl
  · next h => exact hX y (by omega)

/-- Before trip `k` of the third loop the first `k` entries of the list are 8192. -/
def inv3 (k : ℕ) (_ : Unit) : sProp 𝕄 :=
  iprop(∃ X : Vec F S512 .i32, ⌜∀ y, (y 0).val < k → X y = 8192#32⌝ ∗ owns (c : Thread nD τ) arg5 fullShare X)

theorem trip3 (E : Set ℕ) (k : Fin k2_t3_loop.trips) (u : Unit) :
    inv3 c arg5 k.val u ⊢ wp frame (wpE (defs₀ (F := F)) 𝒱₀ (c : Thread nD τ) none) E
      (k2_t3_body arg0 harg0 arg1 harg1 arg2 harg2 arg3 harg3 arg4 harg4 arg5 harg5 k u) (inv3 c arg5 (k.val + 1)) := by
  have hk : k.val < 512 := lt_of_lt_of_le k.isLt k2_t3_abs.2.1
  unfold k2_t3_body inv3
  iintro ⟨%X, %hX, H⟩
  iapply (wp_cell_load c none E arg5 (k2_off4_inb k) X (ix1 ⟨k.val, hk⟩) (off4_at k).symm) $$ H; iintro H
  iapply (wp_cell_store c none E arg5 (k2_off4_inb k) X _) $$ H; iintro H
  rw [Prog.pure_eq_ret, wp_ret]; imodintro
  iexists _; isplitr; swap
  · iexact H
  ipureintro
  intro y hy
  rw [off4_at]
  split
  · rfl
  · next h => exact hX y (by omega)

/-- Before trip `k` of the last loop the carried blocks are the weight blocks after `k` words. -/
def inv4 (R : Vec F S4096 .i32) (X : Vec F S512 .i32) (k : ℕ) (a : FVec F S32x128 .f32 × FVec F S32x128 .f32) : sProp 𝕄 :=
  iprop(⌜a = (wsum (takenWord R) k, wsum' (takenWord R) k)⌝ ∗ owns (c : Thread nD τ) arg5 fullShare X)

theorem trip4 (E : Set ℕ) (R : Vec F S4096 .i32) (X : Vec F S512 .i32) (hX : ListIs (taken R) X) (k : Fin k2_t4_loop.trips)
    (a : FVec F S32x128 .f32 × FVec F S32x128 .f32) :
    inv4 c arg5 R X k.val a ⊢ wp frame (wpE (defs₀ (F := F)) 𝒱₀ (c : Thread nD τ) none) E
      (k2_t4_body arg0 harg0 arg1 harg1 arg2 harg2 arg3 harg3 arg4 harg4 arg5 harg5 k a) (inv4 c arg5 R X (k.val + 1)) := by
  have hk : k.val < 512 := lt_of_lt_of_le k.isLt k2_t4_abs.2.1
  obtain ⟨a7, a8⟩ := a
  unfold k2_t4_body inv4
  iintro ⟨%ha, H⟩
  iapply (wp_cell_load c none E arg5 (k2_off9_inb k) X (ix1 ⟨k.val, hk⟩) (off9_at k).symm) $$ H; iintro H
  rw [Prog.pure_eq_ret, wp_ret]; imodintro
  isplitr; swap
  · iexact H
  ipureintro
  obtain ⟨rfl, rfl⟩ := Prod.mk.inj ha
  rw [hX]
  rfl

/-! ### The walk -/

/-- What the walk holds before candidate `n`: the order list, the flags and the list of the pairs taken from the first `n` candidates. -/
def walk (ord : ℕ → ℕ) (n : ℕ) : sProp 𝕄 :=
  iprop((∃ X : Vec F S4096 .i32, ⌜OrdIs ord X⌝ ∗ owns (c : Thread nD τ) arg3 fullShare X)
    ∗ (∃ X : Vec F S4104 .i32, ⌜UsedIs (pick 512 ord n) X⌝ ∗ owns (c : Thread nD τ) arg4 fullShare X)
    ∗ (∃ X : Vec F S512 .i32, ⌜ListIs (pick 512 ord n) X⌝ ∗ owns (c : Thread nD τ) arg5 fullShare X))

/-- The walk from candidate `n` on ends with the pairs taken from all 4096 candidates. -/
def walkSpec (ord : ℕ → ℕ) (n : ℕ) : sWPT 𝕄 (BitVec 32 × BitVec 32) := do
  sWPT.consume (walk c arg3 arg4 arg5 ord n)
  let r ← sWPT.arbitrary
  sWPT.produce (walk c arg3 arg4 arg5 ord 4096)
  pure r

theorem walkSpec_apply (ord : ℕ → ℕ) (n : ℕ) (K : BitVec 32 × BitVec 32 → sProp 𝕄) :
    walkSpec c arg3 arg4 arg5 ord n K
      = iprop(walk c arg3 arg4 arg5 ord n ∗ ∀ r : BitVec 32 × BitVec 32, (walk c arg3 arg4 arg5 ord 4096 -∗ K r)) := rfl

open Classical in
/-- The flags after a pair is taken. -/
theorem usedIs_take {L : List ℕ} {X : Vec F S4104 .i32} (h : UsedIs L X) (i : ℕ) :
    UsedIs (F := F) (L ++ [i]) (fun y => if (y 0).val = i + 1 then 1#32 else if (y 0).val = i then 1#32 else X y) := by
  intro y
  dsimp only
  by_cases h1 : (y 0).val = i + 1
  · rw [if_pos h1, if_pos ((used_append L i _).mpr (.inr (.inr h1.symm)))]
  by_cases h0 : (y 0).val = i
  · rw [if_neg h1, if_pos h0, if_pos ((used_append L i _).mpr (.inr (.inl h0.symm)))]
  rw [if_neg h1, if_neg h0, h y]
  have e : Used (L ++ [i]) (y 0).val ↔ Used L (y 0).val := by
    rw [used_append]
    exact ⟨fun h => h.elim id fun h => (h.elim (fun h => h0 h.symm) (fun h => h1 h.symm)).elim, .inl⟩
  simp only [e]

/-- The list after a pair is taken. -/
theorem listIs_take {L : List ℕ} {X : Vec F S512 .i32} (h : ListIs L X) (i : ℕ) :
    ListIs (F := F) (L ++ [i]) (fun y => if (y 0).val = L.length then BitVec.ofNat 32 i else X y) := by
  intro y
  dsimp only
  by_cases h1 : (y 0).val = L.length
  · rw [if_pos h1, h1]; simp
  · rw [if_neg h1, h y]
    rcases lt_or_gt_of_ne h1 with hl | hl
    · rw [List.getD_eq_getElem?_getD, List.getD_eq_getElem?_getD, List.getElem?_append_left hl]
    · rw [List.getD_eq_getElem?_getD, List.getD_eq_getElem?_getD, List.getElem?_eq_none (by omega),
        List.getElem?_eq_none (by rw [List.length_append, List.length_singleton]; omega)]

/-- The list when a pair is passed over: the entry past its end is 8192 again. -/
theorem listIs_skip {L : List ℕ} {X : Vec F S512 .i32} (h : ListIs L X) :
    ListIs (F := F) L (fun y => if (y 0).val = L.length then 8192#32 else X y) := by
  intro y
  dsimp only
  by_cases h1 : (y 0).val = L.length
  · rw [if_pos h1, h1, List.getD_eq_getElem?_getD, List.getElem?_eq_none le_rfl]; rfl
  · rw [if_neg h1, h y]

open Classical in
/-- The flags when a pair is passed over: both are stored back. -/
theorem usedIs_skip {L : List ℕ} {X : Vec F S4104 .i32} (h : UsedIs L X) (i : ℕ) :
    UsedIs (F := F) L (fun y => if (y 0).val = i + 1 then Scalar.ori (if Used L (i + 1) then 1#32 else 0#32) 0#32
      else if (y 0).val = i then Scalar.ori (if Used L i then 1#32 else 0#32) 0#32 else X y) := by
  intro y
  dsimp only
  by_cases h1 : (y 0).val = i + 1
  · rw [if_pos h1, h1]; split <;> rfl
  by_cases h0 : (y 0).val = i
  · rw [if_neg h1, if_pos h0, h0]; split <;> rfl
  rw [if_neg h1, if_neg h0, h y]

/-- The walk's test passes while candidates remain and fewer than 512 pairs are taken, -/
theorem test_go {n l : ℕ} (hn : n < 4096) (hl : l < 512) :
    Scalar.andi (Scalar.cmpi .slt (BitVec.ofNat 32 n) 4096#32) (Scalar.cmpi .slt (BitVec.ofNat 32 l) 512#32) = 1#1 := by
  rw [show (4096#32 : BitVec 32) = BitVec.ofNat 32 4096 from rfl, show (512#32 : BitVec 32) = BitVec.ofNat 32 512 from rfl,
    cmpi_slt_small (by omega) (by omega), cmpi_slt_small (by omega) (by omega), if_pos hn, if_pos hl]
  rfl

/-- and fails otherwise. -/
theorem test_stop {n l : ℕ} (hn : n ≤ 4096) (hl : l ≤ 512) (h : n = 4096 ∨ l = 512) :
    ¬Scalar.andi (Scalar.cmpi .slt (BitVec.ofNat 32 n) 4096#32) (Scalar.cmpi .slt (BitVec.ofNat 32 l) 512#32) = 1#1 := by
  rw [show (4096#32 : BitVec 32) = BitVec.ofNat 32 4096 from rfl, show (512#32 : BitVec 32) = BitVec.ofNat 32 512 from rfl,
    cmpi_slt_small (by omega) (by omega), cmpi_slt_small (by omega) (by omega)]
  rcases h with h | h
  · rw [if_neg (show ¬n < 4096 by omega)]; split <;> decide
  · rw [if_neg (show ¬l < 512 by omega)]; split <;> decide

open Classical in
/-- The label's body meets the specification, by induction on the candidates left. -/
theorem walk_le (E : Set ℕ) (ord : ℕ → ℕ) (hord : ∀ k < 4096, ord k < 4096) :
    ∀ k n, n + k = 4096 → walkSpec (F := F) c arg3 arg4 arg5 ord n
      ≤ wp frame (wpE (defs₀ (F := F)) 𝒱₀ (c : Thread nD τ) (some k)) E
          (defs₀ (F := F) .tc 4 ⟨arg3, harg3, arg4, harg4, arg5, harg5, BitVec.ofNat 32 n, BitVec.ofNat 32 (pick 512 ord n).length⟩) := by
  intro k
  induction k with
  | zero =>
    intro n hn K
    rw [walkSpec_apply]
    show _ ⊢ wp frame (wpE (defs₀ (F := F)) 𝒱₀ (c : Thread nD τ) (some 0)) E
      (cc2_while1 arg3 harg3 arg4 harg4 arg5 harg5 (BitVec.ofNat 32 n) (BitVec.ofNat 32 (pick 512 ord n).length)) K
    obtain rfl : n = 4096 := by omega
    simp only [cc2_while1_eq_skeleton]; unfold cc2_while1_skel
    simp only [test_stop le_rfl (pick_length_le 512 ord _) (.inl rfl), ↓reduceIte, Prog.pure_eq_ret]
    iintro ⟨H, Hk⟩
    rw [wp_ret]; imodintro
    iapply Hk; iexact H
  | succ k ih =>
    intro n hn K
    rw [walkSpec_apply]
    show _ ⊢ wp frame (wpE (defs₀ (F := F)) 𝒱₀ (c : Thread nD τ) (some (k + 1))) E
      (cc2_while1 arg3 harg3 arg4 harg4 arg5 harg5 (BitVec.ofNat 32 n) (BitVec.ofNat 32 (pick 512 ord n).length)) K
    simp only [cc2_while1_eq_skeleton]; unfold cc2_while1_skel
    rcases lt_or_eq_of_le (pick_length_le 512 ord n) with hl | hl
    swap
    · simp only [test_stop (show n ≤ 4096 by omega) hl.le (.inr hl), ↓reduceIte, Prog.pure_eq_ret]
      iintro ⟨H, Hk⟩
      rw [wp_ret]; imodintro
      iapply Hk
      unfold walk
      rw [pick_stays hl 4096 (by omega)]
      iexact H
    have hn' : n < 4096 := by omega
    simp only [test_go hn' hl, ↓reduceIte]
    generalize hL : pick 512 ord n = L at hl
    have hi := hord n hn'
    have hS : pick 512 ord (n + 1) = step 512 L (ord n) := by rw [pick, hL]
    generalize hio : ord n = i at hi hS
    unfold walk
    rw [hL]
    iintro ⟨⟨⟨%X3, %h3, H3⟩, ⟨%X4, %h4, H4⟩, ⟨%X5, %h5, H5⟩⟩, Hk⟩
    have hchk4 : k2_chk4 (BitVec.ofNat 32 L.length) := by
      intro a; fin_cases a
      show k2_off8 (BitVec.ofNat 32 L.length) 0 + 1 ≤ 512
      rw [off8_eq (by omega)]; show L.length + 1 ≤ 512; omega
    have hchk2 : k2_chk2 (BitVec.ofNat 32 n) := by
      intro a; fin_cases a
      show k2_off5 (BitVec.ofNat 32 n) 0 + 1 ≤ 4096
      rw [off5_eq (by omega)]; show n + 1 ≤ 4096; omega
    have hchk3 : k2_chk3 (BitVec.ofNat 32 i) := by
      refine ⟨fun a => ?_, fun a => ?_⟩ <;> fin_cases a
      · show k2_off6 (BitVec.ofNat 32 i) 0 + 1 ≤ 4104
        rw [off6_eq (by omega)]; show i + 1 ≤ 4104; omega
      · show k2_off7 (BitVec.ofNat 32 i) 0 + 1 ≤ 4104
        rw [off7_eq (by omega)]; show i + 1 + 1 ≤ 4104; omega
    iapply (wp_assume_lift c (some (k + 1)) E hchk4)
    iapply (wp_assume_lift c (some (k + 1)) E hchk2)
    iapply (wp_cell_load c (some (k + 1)) E arg3 (k2_off5_inb _ hchk2) X3 (ix1 ⟨n, hn'⟩) (by rw [off5_eq (by omega)]; rfl)) $$ H3; iintro H3
    rw [show X3 (ix1 ⟨n, hn'⟩) = BitVec.ofNat 32 i from (h3 _).trans (by rw [← hio])]
    iapply (wp_assume_lift c (some (k + 1)) E hchk3)
    iapply (wp_cell_load c (some (k + 1)) E arg4 (k2_off6_inb _ hchk3) X4 (ix1 ⟨i, by omega⟩) (by rw [off6_eq (by omega)]; rfl)) $$ H4; iintro H4
    iapply (wp_cell_load c (some (k + 1)) E arg4 (k2_off7_inb _ hchk3) X4 (ix1 ⟨i + 1, by omega⟩) (by rw [off7_eq (by omega)]; rfl)) $$ H4; iintro H4
    rw [show X4 (ix1 ⟨i, by omega⟩) = if Used L i then 1#32 else 0#32 from h4 _,
      show X4 (ix1 ⟨i + 1, by omega⟩) = if Used L (i + 1) then 1#32 else 0#32 from h4 _]
    iapply (wp_cell_load c (some (k + 1)) E arg4 (k2_off6_inb _ hchk3) X4 (ix1 ⟨i, by omega⟩) (by rw [off6_eq (by omega)]; rfl)) $$ H4; iintro H4
    iapply (wp_cell_store c (some (k + 1)) E arg4 (k2_off6_inb _ hchk3) X4 _) $$ H4; iintro H4
    iapply (wp_cell_load c (some (k + 1)) E arg4 (k2_off7_inb _ hchk3) _ (ix1 ⟨i + 1, by omega⟩) (by rw [off7_eq (by omega)]; rfl)) $$ H4; iintro H4
    iapply (wp_cell_store c (some (k + 1)) E arg4 (k2_off7_inb _ hchk3) _ _) $$ H4; iintro H4
    iapply (wp_cell_load c (some (k + 1)) E arg5 (k2_off8_inb _ hchk4) X5 (ix1 ⟨L.length, hl⟩) (by rw [off8_eq (by omega)]; rfl)) $$ H5; iintro H5
    iapply (wp_cell_store c (some (k + 1)) E arg5 (k2_off8_inb _ hchk4) X5 _) $$ H5; iintro H5
    simp only [off6_eq (show i < 2 ^ 31 by omega), off7_eq (show i + 1 < 2 ^ 31 by omega), off8_eq (show L.length < 2 ^ 31 by omega),
      Matrix.cons_val_zero]
    have hcall := ih (n + 1) (by omega)
    rw [hS] at hcall
    by_cases hfree : ¬Used L i ∧ ¬Used L (i + 1)
    · rw [step_taken hl hfree.1 hfree.2] at hcall hS
      rw [List.length_append, List.length_singleton] at hcall
      simp only [if_neg hfree.1, if_neg hfree.2]
      rw [show Scalar.cmpi .eq (Scalar.addi (0#32 : BitVec 32) 0#32) 0#32 = 1#1 from by decide]
      simp only [show Scalar.select (1#1) (1#32 : BitVec 32) 0#32 = 1#32 from rfl, show Scalar.ori (0#32 : BitVec 32) 1#32 = 1#32 from by decide,
        show Scalar.select (1#1) (BitVec.ofNat 32 i) 8192#32 = BitVec.ofNat 32 i from rfl, addi_one]
      iapply (wp_call_spec 𝒱₀ (c : Thread nD τ) (some (k + 1)) E (walkSpec c arg3 arg4 arg5 ord (n + 1)) k
        (fun u hu => by cases hu; exact Nat.lt_succ_self k) hcall)
      rw [walkSpec_apply]
      unfold walk
      rw [hS]
      isplitl [H3 H4 H5]
      · isplitl [H3]
        · iexists _; isplitr; · ipureintro; exact h3
          iexact H3
        isplitl [H4]
        · iexists _; isplitr; · ipureintro; exact usedIs_take h4 i
          iexact H4
        iexists _; isplitr; · ipureintro; exact listIs_take h5 i
        iexact H5
      iintro %r H
      rw [wp_ret]; imodintro
      iapply Hk; iexact H
    · have hu : Used L i ∨ Used L (i + 1) := by
        by_contra h; exact hfree ⟨fun h' => h (.inl h'), fun h' => h (.inr h')⟩
      rw [step_used hu] at hcall hS
      rw [show Scalar.cmpi .eq (Scalar.addi (if Used L i then 1#32 else 0#32 : BitVec 32) (if Used L (i + 1) then 1#32 else 0#32)) 0#32 = 0#1 from by
        by_cases a : Used L i <;> by_cases b : Used L (i + 1) <;> simp only [a, b, if_true, if_false] <;> first | decide | (exfalso; exact hu.elim a b)]
      simp only [show Scalar.select (0#1) (1#32 : BitVec 32) 0#32 = 0#32 from rfl,
        show Scalar.select (0#1) (BitVec.ofNat 32 i) 8192#32 = 8192#32 from rfl, addi_one,
        show Scalar.addi (BitVec.ofNat 32 L.length) 0#32 = BitVec.ofNat 32 L.length from BitVec.add_zero _]
      iapply (wp_call_spec 𝒱₀ (c : Thread nD τ) (some (k + 1)) E (walkSpec c arg3 arg4 arg5 ord (n + 1)) k
        (fun u hu => by cases hu; exact Nat.lt_succ_self k) hcall)
      rw [walkSpec_apply]
      unfold walk
      rw [hS]
      isplitl [H3 H4 H5]
      · isplitl [H3]
        · iexists _; isplitr; · ipureintro; exact h3
          iexact H3
        isplitl [H4]
        · iexists _; isplitr; · ipureintro; exact usedIs_skip h4 i
          iexact H4
        iexists _; isplitr; · ipureintro; exact listIs_skip h5
        iexact H5
      iintro %r H
      rw [wp_ret]; imodintro
      iapply Hk; iexact H

/-! ### The whole body -/

theorem body_spec (E : Set ℕ) (R : Vec F S4096 .i32) (hR : IsRank 4096 (rankOf R)) (K : PUnit → sProp 𝕄) :
    iprop(owns (c : Thread nD τ) arg0 fullShare R ∗ (∃ d, owns (c : Thread nD τ) arg1 fullShare d) ∗ (∃ d, owns (c : Thread nD τ) arg2 fullShare d)
        ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg0 fullShare R ∗ owns (c : Thread nD τ) arg1 fullShare (wsOf R) ∗ owns (c : Thread nD τ) arg2 fullShare (wrOf R)
            ∗ (∃ d, owns (c : Thread nD τ) arg3 fullShare d) ∗ (∃ d, owns (c : Thread nD τ) arg4 fullShare d)
            ∗ (∃ d, owns (c : Thread nD τ) arg5 fullShare d)) -∗ K ⟨⟩))
      ⊢ wp frame (wpE (defs₀ (F := F)) 𝒱₀ (c : Thread nD τ) none) E
          (cc2_tome_greedy arg0 harg0 arg1 harg1 arg2 harg2 arg3 harg3 arg4 harg4 arg5 harg5) K := by
  have t1 : k2_t1_loop.trips = 4096 := by decide +kernel
  have t2 : k2_t2_loop.trips = 4104 := by decide +kernel
  have t3 : k2_t3_loop.trips = 512 := by decide +kernel
  have t4 : k2_t4_loop.trips = 512 := by decide +kernel
  simp only [cc2_tome_greedy_eq_skeleton]; unfold cc2_tome_greedy_skel
  iintro ⟨H0, H1, H2, ⟨%d3, H3⟩, ⟨%d4, H4⟩, ⟨%d5, H5⟩, Hk⟩
  ihave I1 : inv1 c arg0 arg3 R 0 () $$ [H0 H3]
  · unfold inv1
    isplitl [H0]; · iexact H0
    iexists d3; isplitr; · (ipureintro; intro y hy; exact absurd hy (Nat.not_lt_zero _))
    iexact H3
  iapply (Scf.wp_for_bind frame (wpE (defs₀ (F := F)) 𝒱₀ (c : Thread nD τ) none) E _ _ _ k2_t1_ok _ _ (inv1 c arg0 arg3 R)
    (trip1 c arg0 harg0 arg1 harg1 arg2 harg2 arg3 harg3 arg4 harg4 arg5 harg5 E R hR)) $$ I1
  iintro %u1 I1
  ihave I2 : inv2 c arg4 0 () $$ [H4]
  · unfold inv2
    iexists d4; isplitr; · (ipureintro; intro y hy; exact absurd hy (Nat.not_lt_zero _))
    iexact H4
  iapply (Scf.wp_for_bind frame (wpE (defs₀ (F := F)) 𝒱₀ (c : Thread nD τ) none) E _ _ _ k2_t2_ok _ _ (inv2 c arg4)
    (trip2 c arg0 harg0 arg1 harg1 arg2 harg2 arg3 harg3 arg4 harg4 arg5 harg5 E)) $$ I2
  iintro %u2 I2
  ihave I3 : inv3 c arg5 0 () $$ [H5]
  · unfold inv3
    iexists d5; isplitr; · (ipureintro; intro y hy; exact absurd hy (Nat.not_lt_zero _))
    iexact H5
  iapply (Scf.wp_for_bind frame (wpE (defs₀ (F := F)) 𝒱₀ (c : Thread nD τ) none) E _ _ _ k2_t3_ok _ _ (inv3 c arg5)
    (trip3 c arg0 harg0 arg1 harg1 arg2 harg2 arg3 harg3 arg4 harg4 arg5 harg5 E)) $$ I3
  iintro %u3 I3
  unfold inv1 inv2 inv3
  icases I1 with ⟨H0, %X3, %h3, H3⟩
  icases I2 with ⟨%X4, %h4, H4⟩
  icases I3 with ⟨%X5, %h5, H5⟩
  iapply (wp_call_spec 𝒱₀ (c : Thread nD τ) none E (walkSpec c arg3 arg4 arg5 (orderOf 4096 (rankOf R)) 0) (4096 : ℕ)
    (fun u hu => nomatch hu)
    (walk_le c arg3 harg3 arg4 harg4 arg5 harg5 E (orderOf 4096 (rankOf R)) (fun k hk => (hR.order hk).1) 4096 0 rfl))
  rw [walkSpec_apply]
  isplitl [H3 H4 H5]
  · unfold walk
    isplitl [H3]
    · iexists X3; isplitr; swap
      · iexact H3
      ipureintro; intro y
      exact h3 y (by rw [show Scf.trips _ _ _ = 4096 from t1]; exact (hR.order (y 0).isLt).1)
    isplitl [H4]
    · iexists X4; isplitr; swap
      · iexact H4
      ipureintro; intro y
      rw [show pick 512 (orderOf 4096 (rankOf R)) 0 = [] from rfl, if_neg (not_used_nil _)]
      exact h4 y (by rw [show Scf.trips _ _ _ = 4104 from t2]; exact (y 0).isLt)
    iexists X5; isplitr; swap
    · iexact H5
    ipureintro; intro y
    exact h5 y (by rw [show Scf.trips _ _ _ = 512 from t3]; exact (y 0).isLt)
  iintro %r Hw
  unfold walk
  icases Hw with ⟨⟨%Y3, -, H3⟩, ⟨%Y4, -, H4⟩, ⟨%Y5, %hY5, H5⟩⟩
  ihave I4 : inv4 c arg5 R Y5 0 (k2_pay2 (F := F), k2_pay2 (F := F)) $$ [H5]
  · unfold inv4
    isplitr; · (ipureintro; rfl)
    iexact H5
  iapply (Scf.wp_for_bind frame (wpE (defs₀ (F := F)) 𝒱₀ (c : Thread nD τ) none) E _ _ _ k2_t4_ok _ _ (inv4 c arg5 R Y5)
    (trip4 c arg0 harg0 arg1 harg1 arg2 harg2 arg3 harg3 arg4 harg4 arg5 harg5 E R Y5 hY5)) $$ I4
  iintro %a I4
  unfold inv4
  icases I4 with ⟨%ha, H5⟩
  rw [show Scf.trips _ _ _ = 512 from t4] at ha
  subst ha
  unfold owns
  icases H1 with ⟨%d1, %f1, -, H1⟩
  icases H2 with ⟨%d2, %f2, -, H2⟩
  icases H0 with ⟨%f0, %hf0, H0⟩
  icases H3 with ⟨%f3, %hf3, H3⟩
  icases H4 with ⟨%f4, %hf4, H4⟩
  icases H5 with ⟨%f5, %hf5, H5⟩
  sl_exec
  sl_step
  iapply Hk
  isplitl [H0]
  · iexists _; isplitr; · ipureintro; exact hf0
    iexact H0
  isplitl [H1]
  · iexists _; isplitr; swap; · iexact H1
    ipureintro
    rw [View.read_writes_full]; rfl
  isplitl [H2]
  · iexists _; isplitr; swap; · iexact H2
    ipureintro
    rw [View.read_writes_full]; rfl
  isplitl [H3]
  · iexists Y3, f3; isplitr; · ipureintro; exact hf3
    iexact H3
  isplitl [H4]
  · iexists Y4, f4; isplitr; · ipureintro; exact hf4
    iexact H4
  iexists Y5, f5; isplitr; · ipureintro; exact hf5
  iexact H5

end Body

end Cert.KernelIdeal.Hand

end
-- ==== Proof.KI.Region2.lean ====
/- The third call as a step of the program: the rank array found, the two weight blocks left. -/
module

public import proofs.«01_k».proof.Proof.KI.Greedy

@[expose] public section

noncomputable section

namespace Cert.KernelIdeal.Hand.R2

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

/-- Window `w`'s block at point `t` of the array the call finds. -/
def blk (c : Dev nD) (w : Fin (cfg2 (F := F)).W) (t : Fin (cfg2 (F := F)).N) :
    (((cfg2 (F := F)).win w).xblock ((cfg2 (F := F)).grid.coords t)).Idx → Elt F ((cfg2 (F := F)).win w).elt :=
  (((cfg2 (F := F)).win w).blk t).view.read (Elt F) (V c (Pipeline.arrRef spec2 w))

/-- The call's proof data: arrays as found, the ranks left, the two weight blocks written. -/
def dat (c : Dev nD) : Dat τ (Elt F) Unit ℕ UU ℕ (cfg2 (F := F)) c where
  A w := V c (Pipeline.arrRef spec2 w)
  after w t := match w with
    | ⟨0, _⟩ => blk V c 0 t
    | ⟨1, _⟩ => wsOf (F := F) (blk V c 0 t)
    | ⟨2, _⟩ => wrOf (F := F) (blk V c 0 t)
  Φ _ := Pipeline.scopedRest (Ix := Unit) (Name := ℕ) (U := UU) (Lvl := ℕ) (Val := Elt F) spec2 c
  q _ := fullShare
  owed _ := 0

theorem after_0 (c : Dev nD) (t : Fin (cfg2 (F := F)).N) : (dat V c).after 0 t = blk V c 0 t := rfl
/-- The ranks' staging buffer holds their block whenever the body runs. -/
theorem before_0 (c : Dev nD) (t : Fin (cfg2 (F := F)).N) (d) : (dat V c).before 0 t d = blk V c 0 t :=
  ((dat V c).before_in_eq_fetched 0 rfl (fun _ => rfl) (fun _ _ _ => rfl) (fun t => by rw [after_0]; rfl) t d).trans rfl
theorem after_1 (c : Dev nD) (t : Fin (cfg2 (F := F)).N) : (dat V c).after 1 t = wsOf (F := F) (blk V c 0 t) := rfl
theorem after_2 (c : Dev nD) (t : Fin (cfg2 (F := F)).N) : (dat V c).after 2 t = wrOf (F := F) (blk V c 0 t) := rfl

/-- The body runs from the ranks to the two weight blocks, when the ranks are a permutation. -/
theorem body_obligation (c : Dev nD) (hR : ∀ t, Greedy.IsRank 4096 (rankOf (F := F) (blk V c 0 t))) :
    BodyObligation (dat V c) (defs₀ (F := F)) 𝒱₀ () Set.univ := fun t => by
  rw [bigSep_W2, bigSep_W2]
  rw [show defs₀ (F := F) .tc (cfg2 (F := F)).body ((cfg2 (F := F)).bodyArgs t ((cfg2 (F := F)).slots t)) = bodyAt2 t by
    unfold defs₀; rw [Defs.onTc_tc]]
  unfold bodyAt2
  rw [after_0, after_1, after_2]
  rw [show (dat V c).Φ t.succ = Pipeline.scopedRest (Ix := Unit) (Name := ℕ) (U := UU) (Lvl := ℕ) (Val := Elt F) spec2 c from rfl,
    show (dat V c).Φ t.castSucc = Pipeline.scopedRest (Ix := Unit) (Name := ℕ) (U := UU) (Lvl := ℕ) (Val := Elt F) spec2 c from rfl,
    show (dat V c).owesAt () t.succ = (dat V c).owesAt () t.castSucc from rfl]
  rw [scopedRest2_split]
  iintro ⟨⟨⟨⟨%g3, G3⟩, ⟨%g4, G4⟩, ⟨%g5, G5⟩⟩, HΦ⟩, Ho, ⟨%d0, H0⟩, ⟨%d1, H1⟩, ⟨%d2, H2⟩⟩
  rw [before_0 V c t d0]
  iapply (body_spec c _ _ _ _ _ _ (Memref.whole cc2_scratch0) _ (Memref.whole cc2_scratch1) _ (Memref.whole cc2_scratch2) _ Set.univ (blk V c 0 t) (hR t) _)
  isplitl [H0]; · iexact H0
  isplitl [H1]; · iexists _; iexact H1
  isplitl [H2]; · iexists _; iexact H2
  simp only [owns_whole_eq]
  isplitl [G3]
  · iexists g3, g3; isplitr; · (ipureintro; rfl)
    iexact G3
  isplitl [G4]
  · iexists g4, g4; isplitr; · (ipureintro; rfl)
    iexact G4
  isplitl [G5]
  · iexists g5, g5; isplitr; · (ipureintro; rfl)
    iexact G5
  iintro ⟨H0, H1, H2, ⟨%e3, %p3, -, G3⟩, ⟨%e4, %p4, -, G4⟩, ⟨%e5, %p5, -, G5⟩⟩
  isplitl [HΦ G3 G4 G5]
  · isplitl [G3 G4 G5]
    · isplitl [G3]; · iexists p3; iexact G3
      isplitl [G4]; · iexists p4; iexact G4
      iexists p5; iexact G5
    iexact HΦ
  isplitl [Ho]; · iexact Ho
  isplitl [H0]; · iexact H0
  isplitl [H1]; · iexact H1
  iexact H2

end Cert.KernelIdeal.Hand.R2

end
-- ==== Proof.KI.Region3.lean ====
/- The fourth call: each grid point writes 512 merged rows of one batch. -/
module

public import proofs.«01_k».proof.Proof.KI.Common

@[expose] public section

noncomputable section

namespace Cert.KernelIdeal.Hand.R3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The body leaves its operands and writes the payload of its one store over the result block. -/
theorem spec (c : Dev nD) (i : grid3.Coords) (arg2 : Memref sig .tc .vmem S1x512x2048 .f32) (h2 : arg2.IsWhole) (arg3 : Memref sig .tc .vmem S1x1x1x2048 .f32) (h3 : arg3.IsWhole) (arg4 : Memref sig .tc .vmem S1x1x1x2048 .f32) (h4 : arg4.IsWhole) (arg5 : Memref sig .tc .vmem S1x512x1 .f32) (h5 : arg5.IsWhole) (arg6 : Memref sig .tc .vmem S1x512x1 .f32) (h6 : arg6.IsWhole) (arg7 : Memref sig .tc .vmem S1x512x2048 .f32) (h7 : arg7.IsWhole)
    (x0 : Vec F S1x512x2048 .f32) (x1 : Vec F S1x1x1x2048 .f32) (x2 : Vec F S1x1x1x2048 .f32) (x3 : Vec F S1x512x1 .f32) (x4 : Vec F S1x512x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (k3_pay1 x0 x1 x2 x3 x4)) -∗ K ⟨⟩))
      ⊢ wp frame (wpE (defs₀ (F := F)) 𝒱₀ c none) E (cc3_tome_merge i arg2 h2 arg3 h3 arg4 h4 arg5 h5 arg6 h6 arg7 h7) K := by
  simp only [cc3_tome_merge_eq_skeleton]; unfold cc3_tome_merge_skel
  unfold owns
  iintro ⟨⟨%f0, %hf0, H0⟩, ⟨%f1, %hf1, H1⟩, ⟨%f2, %hf2, H2⟩, ⟨%f3, %hf3, H3⟩, ⟨%f4, %hf4, H4⟩, ⟨%d, %f, -, H5⟩, Hk⟩
  obtain rfl := h2.eq_unread hf0; obtain rfl := h3.eq_unread hf1; obtain rfl := h4.eq_unread hf2; obtain rfl := h5.eq_unread hf3; obtain rfl := h6.eq_unread hf4
  sl_exec
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr; · ipureintro; exact h5.read_unread _
    iexact H3
  isplitl [H4]
  · iexists _; isplitr; · ipureintro; exact h6.read_unread _
    iexact H4
  iexists _; isplitr; swap; · iexact H5
  ipureintro
  rw [View.read_writes_full, View.readAt_full, View.readAt_full, View.readAt_full, View.readAt_full, View.readAt_full, h2.read_unread, h3.read_unread, h4.read_unread, h5.read_unread, h6.read_unread]

variable (V : Vals F)

/-- Window `w`'s block at point `t` of the array the call finds. -/
def blk (c : Dev nD) (w : Fin (cfg3 (F := F)).W) (t : Fin (cfg3 (F := F)).N) :
    (((cfg3 (F := F)).win w).xblock ((cfg3 (F := F)).grid.coords t)).Idx → Elt F ((cfg3 (F := F)).win w).elt :=
  (((cfg3 (F := F)).win w).blk t).view.read (Elt F) (V c (Pipeline.arrRef spec3 w))

/-- The result block the body writes at point `t`. -/
def res (c : Dev nD) (t : Fin (cfg3 (F := F)).N) : Vec F S1x512x2048 .f32 :=
  k3_pay1 (blk V c 0 t) (blk V c 1 t) (blk V c 2 t) (blk V c 3 t) (blk V c 4 t)

/-- The call's proof data: arrays as found, operands left, the result block `res`. -/
def dat (c : Dev nD) : Dat τ (Elt F) Unit ℕ UU ℕ (cfg3 (F := F)) c where
  A w := V c (Pipeline.arrRef spec3 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => res V c t
  Φ _ := Pipeline.scopedRest (Ix := Unit) (Name := ℕ) (U := UU) (Lvl := ℕ) (Val := Elt F) spec3 c
  q _ := fullShare
  owed _ := 0

theorem after_0 (c : Dev nD) (t : Fin (cfg3 (F := F)).N) : (dat V c).after 0 t = blk V c 0 t := rfl
/-- Operand 0's staging buffer holds its block whenever the body runs. -/
theorem before_0 (c : Dev nD) (t : Fin (cfg3 (F := F)).N) (d) : (dat V c).before 0 t d = blk V c 0 t :=
  ((dat V c).before_in_eq_fetched 0 rfl (fun _ => rfl) (fun _ _ _ => rfl) (fun t => by rw [after_0]; rfl) t d).trans rfl
theorem after_1 (c : Dev nD) (t : Fin (cfg3 (F := F)).N) : (dat V c).after 1 t = blk V c 1 t := rfl
/-- Operand 1's staging buffer holds its block whenever the body runs. -/
theorem before_1 (c : Dev nD) (t : Fin (cfg3 (F := F)).N) (d) : (dat V c).before 1 t d = blk V c 1 t :=
  ((dat V c).before_in_eq_fetched 1 rfl (fun _ => rfl) (fun _ _ _ => rfl) (fun t => by rw [after_1]; rfl) t d).trans rfl
theorem after_2 (c : Dev nD) (t : Fin (cfg3 (F := F)).N) : (dat V c).after 2 t = blk V c 2 t := rfl
/-- Operand 2's staging buffer holds its block whenever the body runs. -/
theorem before_2 (c : Dev nD) (t : Fin (cfg3 (F := F)).N) (d) : (dat V c).before 2 t d = blk V c 2 t :=
  ((dat V c).before_in_eq_fetched 2 rfl (fun _ => rfl) (fun _ _ _ => rfl) (fun t => by rw [after_2]; rfl) t d).trans rfl
theorem after_3 (c : Dev nD) (t : Fin (cfg3 (F := F)).N) : (dat V c).after 3 t = blk V c 3 t := rfl
/-- Operand 3's staging buffer holds its block whenever the body runs. -/
theorem before_3 (c : Dev nD) (t : Fin (cfg3 (F := F)).N) (d) : (dat V c).before 3 t d = blk V c 3 t :=
  ((dat V c).before_in_eq_fetched 3 rfl (fun _ => rfl) (fun _ _ _ => rfl) (fun t => by rw [after_3]; rfl) t d).trans rfl
theorem after_4 (c : Dev nD) (t : Fin (cfg3 (F := F)).N) : (dat V c).after 4 t = blk V c 4 t := rfl
/-- Operand 4's staging buffer holds its block whenever the body runs. -/
theorem before_4 (c : Dev nD) (t : Fin (cfg3 (F := F)).N) (d) : (dat V c).before 4 t d = blk V c 4 t :=
  ((dat V c).before_in_eq_fetched 4 rfl (fun _ => rfl) (fun _ _ _ => rfl) (fun t => by rw [after_4]; rfl) t d).trans rfl
theorem after_5 (c : Dev nD) (t : Fin (cfg3 (F := F)).N) : (dat V c).after 5 t = res V c t := rfl

/-- The body runs at every point from the staged blocks to the result block. -/
theorem body_obligation (c : Dev nD) : BodyObligation (dat V c) (defs₀ (F := F)) 𝒱₀ () Set.univ := fun t => by
  rw [bigSep_W3, bigSep_W3]
  rw [show defs₀ (F := F) .tc (cfg3 (F := F)).body ((cfg3 (F := F)).bodyArgs t ((cfg3 (F := F)).slots t)) = bodyAt3 t by
    unfold defs₀; rw [Defs.onTc_tc]]
  unfold bodyAt3
  rw [after_0, after_1, after_2, after_3, after_4, after_5]
  rw [show (dat V c).Φ t.succ = (dat V c).Φ t.castSucc from rfl,
    show (dat V c).owesAt () t.succ = (dat V c).owesAt () t.castSucc from rfl]
  unfold res
  iintro ⟨HΦ, Ho, ⟨%d0, H0⟩, ⟨%d1, H1⟩, ⟨%d2, H2⟩, ⟨%d3, H3⟩, ⟨%d4, H4⟩, ⟨%d5, H5⟩⟩
  rw [before_0 V c t d0, before_1 V c t d1, before_2 V c t d2, before_3 V c t d3, before_4 V c t d4]
  iapply (spec c (grid3.coords t) _ _ _ _ _ _ _ _ _ _ _ _ (blk V c 0 t) (blk V c 1 t) (blk V c 2 t) (blk V c 3 t) (blk V c 4 t) Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

end Cert.KernelIdeal.Hand.R3

end
-- ==== Proof.KI.Run.lean ====
/- The whole program: host stretches and four calls in turn. Given that the ranks the second call leaves are a permutation, every
   execution ends with the argument as it was, the result as the fourth call leaves it, and every semaphore at zero. -/
module

public import proofs.«01_k».proof.Proof.KI.Region0
public import proofs.«01_k».proof.Proof.KI.Region1
public import proofs.«01_k».proof.Proof.KI.Region2
public import proofs.«01_k».proof.Proof.KI.Region3

@[expose] public section

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf HostSeg RegionSeg Seg afterRegion)

variable {F : FTy → Type} [FloatOps F]

local notation "𝕄" => MT nD τ sig Unit (Elt F) ℕ UU ℕ

variable (m : (ℓ : Loc nD τ sig) → Buf (Elt F) ℓ) (ρ : Dev nD → PrngReg)

/-! ### The buffers between the items -/

/-- What the program's buffers hold when the first call starts. -/
abbrev W3 (c : Dev nD) : Valuation τ sig (Elt F) := V3 m c
/-- The first call's data. -/
abbrev d0 (c : Dev nD) : Dat τ (Elt F) Unit ℕ UU ℕ (cfg0 (F := F)) c := R0.dat (fun c b => W3 m c (Proc.devRef .tc b)) c
/-- After the first call. -/
abbrev W4 (c : Dev nD) : Valuation τ sig (Elt F) := afterRegion (d0 m c) (W3 m c)
/-- Before the second call. -/
abbrev W5 (c : Dev nD) : Valuation τ sig (Elt F) := StableHlo.after hostOps1 (W4 m c)
/-- The second call's data. -/
abbrev d1 (c : Dev nD) : Dat τ (Elt F) Unit ℕ UU ℕ (cfg1 (F := F)) c := R1.dat (fun c b => W5 m c (Proc.devRef .tc b)) c
/-- After the second call. -/
abbrev W6 (c : Dev nD) : Valuation τ sig (Elt F) := afterRegion (d1 m c) (W5 m c)
/-- Before the third call. -/
abbrev W7 (c : Dev nD) : Valuation τ sig (Elt F) := StableHlo.after hostOps2 (W6 m c)
/-- The third call's data. -/
abbrev d2 (c : Dev nD) : Dat τ (Elt F) Unit ℕ UU ℕ (cfg2 (F := F)) c := R2.dat (fun c b => W7 m c (Proc.devRef .tc b)) c
/-- After the third call. -/
abbrev W8 (c : Dev nD) : Valuation τ sig (Elt F) := afterRegion (d2 m c) (W7 m c)
/-- Before the fourth call. -/
abbrev W9 (c : Dev nD) : Valuation τ sig (Elt F) := StableHlo.after hostOps3 (W8 m c)
/-- The fourth call's data. -/
abbrev d3 (c : Dev nD) : Dat τ (Elt F) Unit ℕ UU ℕ (cfg3 (F := F)) c := R3.dat (fun c b => W9 m c (Proc.devRef .tc b)) c
/-- After the fourth call. -/
abbrev W10 (c : Dev nD) : Valuation τ sig (Elt F) := afterRegion (d3 m c) (W9 m c)

/-- The ranks the third call finds are a permutation of the 4096 numbers. -/
def RanksOk : Prop := ∀ (c : Dev nD) (t : Fin (cfg2 (F := F)).N),
  Greedy.IsRank 4096 (rankOf (F := F) (R2.blk (fun c b => W7 m c (Proc.devRef .tc b)) c 0 t))

/-! ### The four calls as segments -/

/-- The four calls' data. -/
def pdats : (p : Fin 4) → (c : Dev nD) → Dat τ (Elt F) Unit ℕ UU ℕ ((cfgs (F := F)) p) c
  | ⟨0, _⟩ => d0 m
  | ⟨1, _⟩ => d1 m
  | ⟨2, _⟩ => d2 m
  | ⟨3, _⟩ => d3 m

/-- Every semaphore of a core is waited on under the one index, -/
def Lset (g : GSem nD τ sig) : Finset Unit := if g.1.2 = .tc then {()} else ∅
/-- at the one level. -/
def lvl (_ : GSem nD τ sig) (_ : Unit) : ℕ := 0

/-- Nothing is owed. -/
def due (_ : Dev nD) : CellTallies nD τ sig Unit := 0

theorem levelCut (p : Fin 4) : Pipeline.LevelCut (pcfgs (F := F)) adm () Lset lvl p due (fun _ => 0) where
  hι c w s := by unfold Lset; rw [if_pos rfl]; exact Finset.mem_singleton_self _
  hιb c w s := le_rfl
  hD c g i h := absurd h (lt_irrefl _)

/-- What rides along between the items beside the buffers: the core owes nothing. -/
def rest (_ : Fin 5) (c : Dev nD) : sProp 𝕄 :=
  iprop((∃ Wd, owes (c : Thread nD τ) (due c) Wd) ∗ emp ∗ emp)

theorem share_full (p : Fin 4) (c : Dev nD) (w) : (pdats m p c).share w = fullShare := by
  fin_cases p <;> (unfold Dat.share; split <;> rfl)
theorem owed_due (p : Fin 4) (c : Dev nD) (t) : (pdats m p c).owed t = due c := by
  fin_cases p <;> rfl
theorem recorded_all (p : Fin 4) (c : Dev nD) : (pdats m p c).recorded 0 = Set.univ := by
  fin_cases p <;> rfl
theorem scratch_0 (c : Dev nD) (t) : (pdats m 0 c).Φ t = Pipeline.scopedRest (Ix := Unit) (Name := ℕ) (U := UU) (Lvl := ℕ) (Val := Elt F) spec0 c := rfl

theorem scratch_1 (c : Dev nD) (t) : (pdats m 1 c).Φ t = Pipeline.scopedRest (Ix := Unit) (Name := ℕ) (U := UU) (Lvl := ℕ) (Val := Elt F) spec1 c := rfl

theorem scratch_2 (c : Dev nD) (t) : (pdats m 2 c).Φ t = Pipeline.scopedRest (Ix := Unit) (Name := ℕ) (U := UU) (Lvl := ℕ) (Val := Elt F) spec2 c := rfl

theorem scratch_3 (c : Dev nD) (t) : (pdats m 3 c).Φ t = Pipeline.scopedRest (Ix := Unit) (Name := ℕ) (U := UU) (Lvl := ℕ) (Val := Elt F) spec3 c := rfl

theorem scratch_0' (c : Dev nD) (t) : (pdats m 0 c).Φ t = Pipeline.scopedRest (Ix := Unit) (Name := ℕ) (U := UU) (Lvl := ℕ) (Val := Elt F) (Pipeline.pin (pcfgs (F := F)) adm 0).spec c := by
  rw [scratch_0]
  congr 1

theorem scratch_1' (c : Dev nD) (t) : (pdats m 1 c).Φ t = Pipeline.scopedRest (Ix := Unit) (Name := ℕ) (U := UU) (Lvl := ℕ) (Val := Elt F) (Pipeline.pin (pcfgs (F := F)) adm 1).spec c := by
  rw [scratch_1]
  congr 1

theorem scratch_2' (c : Dev nD) (t) : (pdats m 2 c).Φ t = Pipeline.scopedRest (Ix := Unit) (Name := ℕ) (U := UU) (Lvl := ℕ) (Val := Elt F) (Pipeline.pin (pcfgs (F := F)) adm 2).spec c := by
  rw [scratch_2]
  congr 1

theorem scratch_3' (c : Dev nD) (t) : (pdats m 3 c).Φ t = Pipeline.scopedRest (Ix := Unit) (Name := ℕ) (U := UU) (Lvl := ℕ) (Val := Elt F) (Pipeline.pin (pcfgs (F := F)) adm 3).spec c := by
  rw [scratch_3]
  congr 1

/-- What a call keeps between its steps is the scratch it does not name. -/
theorem phi_scoped (p : Fin 4) (c : Dev nD) (t) : (pdats m p c).Φ t = Pipeline.scopedRest (Ix := Unit) (Name := ℕ) (U := UU) (Lvl := ℕ) (Val := Elt F) (Pipeline.pin (pcfgs (F := F)) adm p).spec c := by
  fin_cases p
  · exact scratch_0' m c t
  · exact scratch_1' m c t
  · exact scratch_2' m c t
  · exact scratch_3' m c t

/-- A call as a segment, entered with the buffers at `W` and left with its arrays written. -/
def regSeg (p : Fin 4) (kit : Pipeline.LaunchFacts (nD := nD) (τ := τ) (cfgs (F := F)) p) (hK : (pcfgs (F := F) p).pre.K = 0)
    (hbody : ∀ c, BodyObligation (pdats m p c) (defs₀ (F := F)) 𝒱₀ () Set.univ) (W : Dev nD → Valuation τ sig (Elt F))
    (hW : ∀ c w, (pdats m p c).arrAt w 0 = W c (Proc.devRef .tc (Pipeline.arrRef (Pipeline.pin (pcfgs (F := F)) adm p).spec w))) :
    RegionSeg (pcfgs (F := F)) adm (pdats m) () defs₀ 𝒱₀ Lset lvl p :=
  RegionSeg.ofHeldIn (pcfgs (F := F)) adm (pdats m) () defs₀ 𝒱₀ Lset lvl p due (Pipeline.ucRefs τ sig) (fun _ => iprop(emp)) (fun _ => iprop(emp))
    kit.toP hK (fun c => (hbody c).loose) (owed_due m p) (recorded_all m p) (share_full m p)
    (fun c => by rw [phi_scoped]; iintro ⟨H, -⟩; iexact H)
    (fun c => by rw [phi_scoped]; iintro H; isplitl [H]; · iexact H
                 iempintro) (fun _ => 0) (levelCut p) (fun _ => iprop(emp)) W hW

end Cert.KernelIdeal.Hand

end
-- ==== Proof.KI.Whole.lean ====
/- The whole program's run: the host stretches and the four calls in turn, from any memory with every counter at zero. -/
module

public import proofs.«01_k».proof.Proof.KI.Run

@[expose] public section

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf HostSeg RegionSeg Seg afterRegion)

variable {F : FTy → Type} [FloatOps F]

local notation "𝕄" => MT nD τ sig Unit (Elt F) ℕ UU ℕ

variable (m : (ℓ : Loc nD τ sig) → Buf (Elt F) ℓ) (ρ : Dev nD → PrngReg)

/-! ### The segments -/

def segA := Cert.KernelIdeal.Gen.seg0 (F := F) m 𝒱₀ Lset lvl rest
def segB := Cert.KernelIdeal.Gen.seg1 (F := F) m 𝒱₀ Lset lvl rest
def segC := Cert.KernelIdeal.Gen.seg2 (F := F) m 𝒱₀ Lset lvl rest

theorem enters_0 (c : Dev nD) (w) : (pdats m 0 c).arrAt w 0 = W3 m c (Proc.devRef .tc (Pipeline.arrRef (Pipeline.pin (pcfgs (F := F)) adm 0).spec w)) := rfl
theorem enters_1 (c : Dev nD) (w) : (pdats m 1 c).arrAt w 0 = W5 m c (Proc.devRef .tc (Pipeline.arrRef (Pipeline.pin (pcfgs (F := F)) adm 1).spec w)) := rfl
theorem enters_2 (c : Dev nD) (w) : (pdats m 2 c).arrAt w 0 = W7 m c (Proc.devRef .tc (Pipeline.arrRef (Pipeline.pin (pcfgs (F := F)) adm 2).spec w)) := rfl
theorem enters_3 (c : Dev nD) (w) : (pdats m 3 c).arrAt w 0 = W9 m c (Proc.devRef .tc (Pipeline.arrRef (Pipeline.pin (pcfgs (F := F)) adm 3).spec w)) := rfl

/-- The four calls as segments. -/
def reg0 : RegionSeg (pcfgs (F := F)) adm (pdats m) () defs₀ 𝒱₀ Lset lvl 0 :=
  regSeg m 0 launch0 rfl (fun c => R0.body_obligation _ c) (W3 m) (enters_0 m)
def reg1 : RegionSeg (pcfgs (F := F)) adm (pdats m) () defs₀ 𝒱₀ Lset lvl 1 :=
  regSeg m 1 launch1 rfl (fun c => R1.body_obligation _ c) (W5 m) (enters_1 m)
def reg2 (hR : RanksOk m) : RegionSeg (pcfgs (F := F)) adm (pdats m) () defs₀ 𝒱₀ Lset lvl 2 :=
  regSeg m 2 launch2 rfl (fun c => R2.body_obligation _ c (hR c)) (W7 m) (enters_2 m)
def reg3 : RegionSeg (pcfgs (F := F)) adm (pdats m) () defs₀ 𝒱₀ Lset lvl 3 :=
  regSeg m 3 launch3 rfl (fun c => R3.body_obligation _ c) (W9 m) (enters_3 m)

/-- The host stretch between two calls. -/
def segE : HostSeg (Ix := Unit) (Name := ℕ) (U := UU) (Lvl := ℕ) (pcfgs (F := F)) defs₀ 𝒱₀ Lset lvl :=
  HostSeg.ofOps _ _ _ _ _ (Pipeline.ucRefs τ sig) hostOps1 (fun op h => Pipeline.sub_ucRefs op ((List.forall_iff_forall_mem.mp hostOps1_sub) op h))
    (fun op h => (List.forall_iff_forall_mem.mp hostOps1_fresh) op h) (W4 m) (rest 1)
def segG : HostSeg (Ix := Unit) (Name := ℕ) (U := UU) (Lvl := ℕ) (pcfgs (F := F)) defs₀ 𝒱₀ Lset lvl :=
  HostSeg.ofOps _ _ _ _ _ (Pipeline.ucRefs τ sig) hostOps2 (fun op h => Pipeline.sub_ucRefs op ((List.forall_iff_forall_mem.mp hostOps2_sub) op h))
    (fun op h => (List.forall_iff_forall_mem.mp hostOps2_fresh) op h) (W6 m) (rest 2)
def segI : HostSeg (Ix := Unit) (Name := ℕ) (U := UU) (Lvl := ℕ) (pcfgs (F := F)) defs₀ 𝒱₀ Lset lvl :=
  HostSeg.ofOps _ _ _ _ _ (Pipeline.ucRefs τ sig) hostOps3 (fun op h => Pipeline.sub_ucRefs op ((List.forall_iff_forall_mem.mp hostOps3_sub) op h))
    (fun op h => (List.forall_iff_forall_mem.mp hostOps3_fresh) op h) (W8 m) (rest 3)

/-- The program's items in order. -/
abbrev items (hR : RanksOk m) (_ : Dev nD) : List (Seg (pcfgs (F := F)) adm (pdats m) () defs₀ 𝒱₀ Lset lvl) :=
  [.host (segA m), .host (segB m), .host (segC m), .region (reg0 m), .host (segE m), .region (reg1 m), .host (segG m), .region (reg2 m hR),
    .host (segI m), .region (reg3 m)]

/-- A call's segment is entered with the buffers at its valuation and nothing owed, -/
theorem regSeg_pre (p : Fin 4) (kit : Pipeline.LaunchFacts (nD := nD) (τ := τ) (cfgs (F := F)) p) (hK : (pcfgs (F := F) p).pre.K = 0)
    (hbody : ∀ c, BodyObligation (pdats m p c) (defs₀ (F := F)) 𝒱₀ () Set.univ) (W : Dev nD → Valuation τ sig (Elt F))
    (hW : ∀ c w, (pdats m p c).arrAt w 0 = W c (Proc.devRef .tc (Pipeline.arrRef (Pipeline.pin (pcfgs (F := F)) adm p).spec w)))
    (hS : Pipeline.arrRefs (τ := τ) (pcfgs (F := F) p).spec ⊆ Pipeline.ucRefs τ sig) (k : Fin 5) (c : Dev nD) :
    iprop(StableHlo.held (c : Thread nD τ) (Pipeline.ucRefs τ sig) (W c) ∗ rest k c) ⊢ (regSeg m p kit hK hbody W hW).pre c := by
  unfold regSeg rest
  exact RegionSeg.ofHeldIn_pre (pcs := pcfgs (F := F)) (a := adm) (pdats := pdats m) (ι := ()) (defs₀ := defs₀) (𝒱₀ := 𝒱₀) (L := Lset) (lv := lvl) (D := due)
    (X := fun _ => iprop(emp)) (R := fun _ => iprop(emp)) (W := W) hS c

/-- and left with its arrays written. -/
theorem regSeg_post (p : Fin 4) (kit : Pipeline.LaunchFacts (nD := nD) (τ := τ) (cfgs (F := F)) p) (hK : (pcfgs (F := F) p).pre.K = 0)
    (hbody : ∀ c, BodyObligation (pdats m p c) (defs₀ (F := F)) 𝒱₀ () Set.univ) (W : Dev nD → Valuation τ sig (Elt F))
    (hW : ∀ c w, (pdats m p c).arrAt w 0 = W c (Proc.devRef .tc (Pipeline.arrRef (Pipeline.pin (pcfgs (F := F)) adm p).spec w)))
    (hS : Pipeline.arrRefs (τ := τ) (pcfgs (F := F) p).spec ⊆ Pipeline.ucRefs τ sig) (k : Fin 5) (c : Dev nD) :
    (regSeg m p kit hK hbody W hW).post c
      ⊢ iprop(StableHlo.held (c : Thread nD τ) (Pipeline.ucRefs τ sig) (afterRegion (pdats m p c) (W c)) ∗ rest k c) := by
  unfold regSeg rest
  exact RegionSeg.ofHeldIn_post hS c

theorem arrays_sub_0 : Pipeline.arrRefs (τ := τ) (pcfgs (F := F) 0).spec ⊆ Pipeline.ucRefs τ sig :=
  Pipeline.arrRefs_sub_ucRefs spec0 (by decide)
theorem pre_0 (c : Dev nD) : iprop(StableHlo.held (c : Thread nD τ) (Pipeline.ucRefs τ sig) (W3 m c) ∗ rest 0 c) ⊢ (reg0 m).pre c := by
  exact regSeg_pre m 0 launch0 rfl _ _ _ arrays_sub_0 0 c
theorem post_0 (c : Dev nD) : (reg0 m).post c ⊢ iprop(StableHlo.held (c : Thread nD τ) (Pipeline.ucRefs τ sig) (W4 m c) ∗ rest 1 c) := by
  exact regSeg_post m 0 launch0 rfl _ _ _ arrays_sub_0 1 c

theorem arrays_sub_1 : Pipeline.arrRefs (τ := τ) (pcfgs (F := F) 1).spec ⊆ Pipeline.ucRefs τ sig :=
  Pipeline.arrRefs_sub_ucRefs spec1 (by decide)
theorem pre_1 (c : Dev nD) : iprop(StableHlo.held (c : Thread nD τ) (Pipeline.ucRefs τ sig) (W5 m c) ∗ rest 1 c) ⊢ (reg1 m).pre c := by
  exact regSeg_pre m 1 launch1 rfl _ _ _ arrays_sub_1 1 c
theorem post_1 (c : Dev nD) : (reg1 m).post c ⊢ iprop(StableHlo.held (c : Thread nD τ) (Pipeline.ucRefs τ sig) (W6 m c) ∗ rest 2 c) := by
  exact regSeg_post m 1 launch1 rfl _ _ _ arrays_sub_1 2 c

theorem arrays_sub_2 : Pipeline.arrRefs (τ := τ) (pcfgs (F := F) 2).spec ⊆ Pipeline.ucRefs τ sig :=
  Pipeline.arrRefs_sub_ucRefs spec2 (by decide)
theorem pre_2 (hR : RanksOk m) (c : Dev nD) : iprop(StableHlo.held (c : Thread nD τ) (Pipeline.ucRefs τ sig) (W7 m c) ∗ rest 2 c) ⊢ (reg2 m hR).pre c := by
  exact regSeg_pre m 2 launch2 rfl _ _ _ arrays_sub_2 2 c
theorem post_2 (hR : RanksOk m) (c : Dev nD) : (reg2 m hR).post c ⊢ iprop(StableHlo.held (c : Thread nD τ) (Pipeline.ucRefs τ sig) (W8 m c) ∗ rest 3 c) := by
  exact regSeg_post m 2 launch2 rfl _ _ _ arrays_sub_2 3 c

theorem arrays_sub_3 : Pipeline.arrRefs (τ := τ) (pcfgs (F := F) 3).spec ⊆ Pipeline.ucRefs τ sig :=
  Pipeline.arrRefs_sub_ucRefs spec3 (by decide)
theorem pre_3 (c : Dev nD) : iprop(StableHlo.held (c : Thread nD τ) (Pipeline.ucRefs τ sig) (W9 m c) ∗ rest 3 c) ⊢ (reg3 m).pre c := by
  exact regSeg_pre m 3 launch3 rfl _ _ _ arrays_sub_3 3 c
theorem post_3 (c : Dev nD) : (reg3 m).post c ⊢ iprop(StableHlo.held (c : Thread nD τ) (Pipeline.ucRefs τ sig) (W10 m c) ∗ rest 4 c) := by
  exact regSeg_post m 3 launch3 rfl _ _ _ arrays_sub_3 4 c

/-! ### The argument -/

/-- The input is untouched when the fourth call starts, -/
theorem arg_before (c : Dev nD) : W9 m c (Proc.devRef .tc main_arg0) = m ((c : Thread nD τ).loc main_arg0) := by
  have h9 : W9 m c (Proc.devRef .tc main_arg0) = W8 m c (Proc.devRef .tc main_arg0) :=
    StableHlo.after_of_writes_sub hostOps3 _ hostOps3_writes (r := main_arg0) (by decide)
  have h8 : W8 m c (Proc.devRef .tc main_arg0) = W7 m c (Proc.devRef .tc main_arg0) :=
    Pipeline.afterRegion_of_not_arr _ _ (show ∀ w, main_arg0 ≠ Pipeline.arrRef spec2 w by decide)
  have h7 : W7 m c (Proc.devRef .tc main_arg0) = W6 m c (Proc.devRef .tc main_arg0) :=
    StableHlo.after_of_writes_sub hostOps2 _ hostOps2_writes (r := main_arg0) (by decide)
  have h6 : W6 m c (Proc.devRef .tc main_arg0) = W5 m c (Proc.devRef .tc main_arg0) :=
    Pipeline.afterRegion_of_not_arr _ _ (show ∀ w, main_arg0 ≠ Pipeline.arrRef spec1 w by decide)
  have h5 : W5 m c (Proc.devRef .tc main_arg0) = W4 m c (Proc.devRef .tc main_arg0) :=
    StableHlo.after_of_writes_sub hostOps1 _ hostOps1_writes (r := main_arg0) (by decide)
  have h4 : W4 m c (Proc.devRef .tc main_arg0) = W3 m c (Proc.devRef .tc main_arg0) :=
    Pipeline.afterRegion_of_not_arr _ _ (show ∀ w, main_arg0 ≠ Pipeline.arrRef spec0 w by decide)
  have h3 : W3 m c (Proc.devRef .tc main_arg0) = V0 m c main_arg0 :=
    (V3_of m c main_arg0 (by decide)).trans <| (V2_of m c main_arg0 (by decide)).trans <| (V1_of m c main_arg0 (by decide))
  exact h9.trans <| h8.trans <| h7.trans <| h6.trans <| h5.trans <| h4.trans <| h3.trans rfl

/-- and when it ends. -/
theorem arg_kept (c : Dev nD) : W10 m c (Proc.devRef .tc main_arg0) = m ((c : Thread nD τ).loc main_arg0) := by
  have h10 : W10 m c (Proc.devRef .tc main_arg0) = W9 m c (Proc.devRef .tc main_arg0) :=
    Pipeline.afterRegion_keeps (d3 m c) (W9 m c) winFacts3.arr_inj (fun _ => rfl) main_arg0
      (fun w h => by
        have hw : ∀ w, Pipeline.arrRef spec3 w = main_arg0 → w ≠ 5 := by decide
        have := hw w h
        fin_cases w <;> first | rfl | exact absurd rfl this)
  exact h10.trans (arg_before m c)

/-! ### The run -/

/-- The pipelines' cells in the resource algebra. -/
def EP : Emb (URounds (GSem nD τ sig) Unit) 𝕄 := (Emb.refl _).trans (uEmb : UEmb UU 𝕄).toEmb
instance EP_landsIn : (EP (F := F)).LandsIn (upEmb : UEmb _ 𝕄) := by unfold EP; infer_instance

/-- A core that holds its launch state owes nothing, -/
theorem rest_of (c : Dev nD) : (iprop(unscopedSems0 c ∗ owes (c : Thread nD τ) ((0 : Dev nD → CellTallies nD τ sig Unit) c) ∅
      ∗ Pipeline.launchCred (0 : Dev nD → CellTallies nD τ sig Unit) c ∗ prngReg c (ρ c) ∗ emp) : sProp 𝕄) ⊢ rest 0 c := by
  unfold rest due
  iintro ⟨-, HO, -, -, -⟩
  isplitl [HO]; · iexists ∅; iexact HO
  isplitl []; · iempintro
  iempintro

/-- and at the end it still owes nothing. -/
theorem rest_end (c : Dev nD) : (rest 4 c : sProp 𝕄) ⊢ iprop(∃ W, owes (c : Thread nD τ) (0 : CellTallies nD τ sig Unit) W) := by
  unfold rest due
  iintro ⟨HO, -, -⟩
  iexact HO

theorem launch_rest : iprop((bigSep Finset.univ fun c : Dev nD => iprop(unscopedSems0 c ∗ owes (c : Thread nD τ) ((0 : Dev nD → CellTallies nD τ sig Unit) c) ∅
      ∗ Pipeline.launchCred (0 : Dev nD → CellTallies nD τ sig Unit) c ∗ prngReg c (ρ c) ∗ emp)) ∗ levAts Lset lvl)
    ⊢ (|={Set.univ}=> bigSep Finset.univ (rest 0) : sProp 𝕄) := by
  have h : (bigSep Finset.univ fun c : Dev nD => iprop(unscopedSems0 c ∗ owes (c : Thread nD τ) ((0 : Dev nD → CellTallies nD τ sig Unit) c) ∅
      ∗ Pipeline.launchCred (0 : Dev nD → CellTallies nD τ sig Unit) c ∗ prngReg c (ρ c) ∗ emp)) ⊢ (bigSep Finset.univ (rest 0) : sProp 𝕄) :=
    bigSep_mono fun c _ => rest_of ρ c
  iintro ⟨H, -⟩
  imodintro
  iapply h $$ H

set_option backward.isDefEq.respectTransparency.types false in
/-- Given ranks that are a permutation, every execution ends with the argument as launched, the result as the fourth call leaves it, and
    every counter at zero. -/
theorem run (hR : RanksOk m) : θ_run defs (onTc (τ := τ) (main (F := F))) ⟨m, fun _ => 0, ρ⟩ (fun r => (∀ c : Dev nD,
      r.2.mem ((c.tc : Thread nD τ).loc main_v22) = W10 m c (Proc.devRef .tc main_v22)
      ∧ r.2.mem ((c.tc : Thread nD τ).loc main_arg0) = m ((c.tc : Thread nD τ).loc main_arg0))
      ∧ r.2.sem = fun _ => 0) := by
  refine Pipeline.θ_run_regions_kit_dev_sems (pcfgs (F := F)) adm (pdats m) () cellOf_inj EP defs₀ 𝒱₀ Lset lvl m ρ main
    (items m hR)
    (fun c Q => by
      rewrite [main_chain c, Seg.run_eq_chain,
        show (items m hR c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      dsimp (config := { failIfUnchanged := false }) only
      exact .rfl)
    (fun c => by simp only [items, Seg.pipes_host, Seg.pipes_region, Seg.pipes_nil]; decide) 0
    (fun g hg => by unfold Lset; rw [if_neg hg]) (fun _ => iprop(emp))
    (initOf (Pipeline.cells (cfgs (F := F)) cellOf_inj) (Pipeline.launchToks (cfgs (F := F)) cellOf_inj)) ?_
    (T₀ := fun c => iprop(StableHlo.held (c : Thread nD τ) (Pipeline.ucRefs τ sig) (V0 m c) ∗ rest 0 c))
    (Tₙ := fun c => StableHlo.held (c : Thread nD τ) (Pipeline.ucRefs τ sig) (W10 m c))
    (hch := fun c => ⟨.rfl, .rfl, .rfl,
      pre_0 m c, post_0 m c, pre_1 m c, post_1 m c, pre_2 m hR c, post_2 m hR c, pre_3 m c, (post_3 m c).trans (sep_mono .rfl (rest_end c))⟩)
    (hinit := ?_) (QY := fun c s => s.mem ((c.tc : Thread nD τ).loc main_v22) = W10 m c (Proc.devRef .tc main_v22)
      ∧ s.mem ((c.tc : Thread nD τ).loc main_arg0) = m ((c.tc : Thread nD τ).loc main_arg0))
    (hfin := fun c s' => ?_) (hQ := fun _ h hz => ⟨h, funext fun g => hz g (.inr (regions_no_unscoped g.2))⟩)
  · have he : (iprop(emp) : sProp 𝕄) ⊢ bigSep Finset.univ (fun _ : Dev nD => (iprop(emp) : sProp 𝕄)) := by
      have h : (BI.emp : sProp 𝕄) ⊢ bigSep Finset.univ (fun _ : Dev nD => (BI.emp : sProp 𝕄)) := by
        rw [bigSep_emp_const]
      exact h
    iintro Hu
    imodintro
    isplitl [Hu]
    · unfold ownU EP; iexact Hu
    · iapply he; iempintro
  · have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ emp))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((0 : Dev nD → CellTallies nD τ sig Unit) c) ∅
              ∗ Pipeline.launchCred (0 : Dev nD → CellTallies nD τ sig Unit) c ∗ prngReg c (ρ c) ∗ emp)) : sProp 𝕄) := by
      rw [← bigSep_sep']
      exact bigSep_mono fun c _ => by
        rw [← Pipeline.unscopedBufs_held (Ix := Unit) (Name := ℕ) (U := UU) (Lvl := ℕ) c (V0 m c)]; exact BI.Entails.refl _
    iintro ⟨H, Hla⟩
    ihave H' := hsplit $$ H
    icases H' with ⟨Hh, Hr⟩
    imod (launch_rest ρ) $$ [Hr Hla] with HE
    · isplitl [Hr]; · iexact Hr
      iexact Hla
    imodintro
    rw [bigSep_sep']
    isplitl [Hh]; · iexact Hh
    iexact HE
  · unfold StableHlo.held
    iintro ⟨Hh, HSI⟩
    ihave Hr := (pointsTo_read_all (Pipeline.ucRefs τ sig) (fun b => ((c : Thread nD τ).1, b)) (W10 m c) s') $$ [Hh HSI]
    · isplitl [Hh] <;> iassumption
    icases Hr with ⟨%h, HSI⟩
    imodintro
    isplitr
    · ipureintro
      exact ⟨h (Proc.devRef .tc main_v22) (Finset.mem_filter.mpr ⟨StableHlo.devRef_mem_tcRefs main_v22, by decide⟩),
        (h (Proc.devRef .tc main_arg0) (Finset.mem_filter.mpr ⟨StableHlo.devRef_mem_tcRefs main_arg0, by decide⟩)).trans (arg_kept m c)⟩
    · iexact HSI

end Cert.KernelIdeal.Hand

end
-- ==== Proof.KV.Pay.lean ====
/- What the kernels' bodies store, element by element, over the extended reals. -/
module

public import proofs.«01_k».proof.Proof.Gen.KernelIdeal.Skeleton
public import Idealize.ShloMosaic.Lib.Pointwise
public import Idealize.ShloMosaic.Lib.WordCmp

@[expose] public section

set_option maxRecDepth 16384

noncomputable section

namespace Cert.KernelIdeal.Val

open Idealize.ShloMosaic Idealize.ShloMosaic.TcCoe Idealize.SL.Sem
open Cert.KernelIdeal Cert.KernelIdeal.Gen
open Idealize.ShloMosaic.WordCmp

/-- A selection on a decided condition. -/
theorem sel_dec {α : Type} (p : Prop) [Decidable p] (x y : α) : Scalar.select (BitVec.ofBool (decide p)) x y = if p then x else y := by
  by_cases h : p
  · rw [if_pos h, decide_eq_true h]; rfl
  · rw [if_neg h, decide_eq_false h]; rfl

/-- A row's number from its block and its place in the block. -/
theorem row_word (a r : ℕ) : IntOp.addi (Scalar.muli (BitVec.ofNat 32 a) 128#32) (BitVec.ofNat 32 r) = BitVec.ofNat 32 (a * 128 + r) := by
  show BitVec.ofNat 32 a * 128#32 + BitVec.ofNat 32 r = _
  rw [BitVec.ofNat_add, BitVec.ofNat_mul]
theorem row_word' (a r : ℕ) : IntOp.addi (IntOp.muli (128#32) (BitVec.ofNat 32 a)) (BitVec.ofNat 32 r) = BitVec.ofNat 32 (a * 128 + r) := by
  show 128#32 * BitVec.ofNat 32 a + BitVec.ofNat 32 r = _
  rw [BitVec.ofNat_add, BitVec.ofNat_mul, BitVec.mul_comm]

/-- The first kernel stores a row's product with the next row, and the marker at the very last row. -/
theorem pay0 (i : grid0.Coords) (v0 : FVec Ideal S128x2048 .f32) (v4 : FVec Ideal S1x1x2048 .f32) (r : Fin 128) :
    k0_pay1 (F := Ideal) i v0 v4 (ix3 0 r 0) = if (i 0).val * 128 + r.val = 4095 then Ideal.ofBits .f32 0xC0000000#32
      else ∑ d : Fin 2048, v0 (ix2 r d) * (if h : r.val + 1 < 128 then v0 (ix2 ⟨r.val + 1, h⟩ d) else v4 (ix3 0 0 d)) := by
  have hi : (i 0).val < 32 := (i 0).isLt
  pointwise [k0_pay1]
  rw [row_word, cmpi_eq_ofNat (by omega) (by omega), sel_dec]
  congr 1
  have h1 : ∀ x : Fin 127, IntOp.cmpi CmpIPredicate.eq (BitVec.ofNat 32 r.val) (BitVec.ofNat 32 x.val) = BitVec.ofBool (decide (r.val = x.val)) :=
    fun x => cmpi_eq_ofNat (by omega) (by omega)
  simp only [h1, sel_dec]
  rw [cmpi_eq_ofNat (by omega) (by omega), sel_dec]
  by_cases h : r.val + 1 < 128
  · simp only [dif_pos h]
    rw [Finset.sum_eq_single (⟨r.val, by omega⟩ : Fin 127)]
    · rw [if_pos rfl]
      simp only [if_neg (show ¬ r.val = 127 by omega)]
      rw [Finset.sum_eq_zero (fun _ _ => rfl), add_zero]
      refine Finset.sum_congr rfl fun d _ => ?_
      congr 3
      exact Fin.ext (Nat.add_comm _ _)
    · intro b _ hb
      rw [if_neg (fun e => hb (Fin.ext e.symm))]
    · intro hb; exact absurd (Finset.mem_univ _) hb
  · simp only [dif_neg h]
    rw [Finset.sum_eq_zero, zero_add]
    · have h127 : r.val = 127 := by omega
      simp only [if_pos h127]
      rw [Fin.sum_univ_one]
    · intro x _
      rw [if_neg (by omega)]

/-- How many entries precede row `g` in the descending order of `w`, ties by place. -/
def before (w : Fin 4096 → EReal) (a : EReal) (g : ℕ) : ℕ :=
  (Finset.univ.filter fun x : Fin 4096 => a < w x ∨ (w x = a ∧ x.val < g)).card

theorem fptosi_nat (n : ℕ) (h : n ≤ 4096) : Ideal.fptosi 32 ((n : ℝ) : EReal) = BitVec.ofNat 32 n := by
  unfold Ideal.fptosi
  rw [Ideal.toIntClamped_coe, if_pos (by positivity), Int.floor_natCast]
  rw [show max (-((2 ^ (32 - 1) : ℕ) : ℤ)) (min (((2 ^ (32 - 1) : ℕ) : ℤ) - 1) (n : ℤ)) = (n : ℤ) by
    norm_num; omega]
  rfl

/-- The second kernel counts the entries before a row. -/
theorem pay1 (i : grid1.Coords) (v0 : FVec Ideal S1x128x1 .f32) (v2 : FVec Ideal S1x4096 .f32) (r : Fin 128) :
    k1_pay1 (F := Ideal) i v0 v2 (ix3 0 r 0)
      = BitVec.ofNat 32 (before (fun x => v2 (ix2 0 x)) (v0 (ix3 0 r 0)) ((i 0).val * 128 + r.val)) := by
  have hi : (i 0).val < 32 := (i 0).isLt
  pointwise [k1_pay1]
  rw [row_word]
  have h1 : ∀ x : Fin 4096, IntOp.cmpi CmpIPredicate.slt (BitVec.ofNat 32 x.val) (BitVec.ofNat 32 ((i 0).val * 128 + r.val))
      = BitVec.ofBool (decide (x.val < (i 0).val * 128 + r.val)) := fun x => cmpi_slt_ofNat (by omega) (by omega)
  simp only [h1, andi_ofBool, ori_ofBool, ← Bool.decide_and, ← Bool.decide_or, sel_dec]
  have h2 : (∑ x : Fin 4096, if v0 (ix3 0 r 0) < v2 (ix2 0 x) ∨ v2 (ix2 0 x) = v0 (ix3 0 r 0) ∧ x.val < (i 0).val * 128 + r.val then (1 : EReal) else 0)
      = (((before (fun x => v2 (ix2 0 x)) (v0 (ix3 0 r 0)) ((i 0).val * 128 + r.val) : ℕ) : ℝ) : EReal) := by
    rw [Finset.sum_boole]; rfl
  refine Eq.trans (congrArg (Ideal.fptosi 32) h2) (fptosi_nat _ ?_)
  exact (Finset.card_le_univ _).trans (le_of_eq (Fintype.card_fin _))

/-- The fourth kernel mixes a row with its two neighbours. -/
theorem pay3 (v0 : FVec Ideal S1x512x2048 .f32) (v2 v4 : FVec Ideal S1x1x1x2048 .f32) (v6 v8 : FVec Ideal S1x512x1 .f32) (r : Fin 512) (d : Fin 2048) :
    k3_pay1 (F := Ideal) v0 v2 v4 v6 v8 (ix3 0 r d) = (((1 - v6 (ix3 0 r 0) - v8 (ix3 0 r 0)) * v0 (ix3 0 r d) +
        v6 (ix3 0 r 0) * if h : r.val + 1 < 512 then v0 (ix3 0 ⟨r.val + 1, h⟩ d) else v4 (ix4 0 0 0 d)) +
      v8 (ix3 0 r 0) * if h : r.val < 1 then v2 (ix4 0 0 0 d) else v0 (ix3 0 ⟨r.val - 1, by omega⟩ d)) := by
  pointwise [k3_pay1]
  congr 3
  by_cases h : r.val + 1 < 512
  · rw [dif_pos h, dif_pos (show r.val < 511 by omega)]
    congr 2
    exact Fin.ext (Nat.add_comm _ _)
  · rw [dif_neg h, dif_neg (show ¬ r.val < 511 by omega)]

theorem pay2a (v : FVec Ideal S32x128 .f32) (w : BitVec 32) (r : Fin 32) (d : Fin 128) :
    k2_pay3 (F := Ideal) v w (ix2 r d) = v (ix2 r d) + if BitVec.ofNat 32 (r.val * 128 + d.val) = w then Ideal.ofBits .f32 0x3F000000#32 else 0 := by
  pointwise [k2_pay3, k2_pay1]
  rw [row_word', cmpi_eq_eq, sel_dec]
theorem pay2b (v : FVec Ideal S32x128 .f32) (w : BitVec 32) (r : Fin 32) (d : Fin 128) :
    k2_pay4 (F := Ideal) v w (ix2 r d) = v (ix2 r d) + if BitVec.ofNat 32 (r.val * 128 + d.val) = w + 1#32 then Ideal.ofBits .f32 0x3F000000#32 else 0 := by
  pointwise [k2_pay4, k2_pay1]
  rw [row_word', cmpi_eq_eq, sel_dec]
  rfl
theorem pay2z (r : Fin 32) (d : Fin 128) : k2_pay2 (F := Ideal) (ix2 r d) = 0 := by
  pointwise [k2_pay2]

end Cert.KernelIdeal.Val

end
-- ==== Proof.Rows.lean ====
/- A token's row, its length and its direction, and how near two neighbouring tokens are, over the extended reals. -/
module

public import Idealize.ShloMosaic.Lib.Pointwise

@[expose] public section

noncomputable section

namespace Rows

open Idealize.ShloMosaic

/-- A row's length, kept away from zero. -/
def len (v : Fin 2048 → EReal) : EReal := max (Ideal.sqrt (∑ d, v d * v d)) (Ideal.ofBits .f32 0x2B8CBCCC#32)

/-- A row divided by its length. -/
def unit (v : Fin 2048 → EReal) (d : Fin 2048) : EReal := Ideal.div (v d) (len v)

/-- How near token `i` is to the token after it. -/
def near (x : Fin 4096 → Fin 2048 → EReal) (i : ℕ) (h : i + 1 < 4096) : EReal :=
  ∑ d, unit (x ⟨i, Nat.lt_of_succ_lt h⟩) d * unit (x ⟨i + 1, h⟩) d

/-- Every token's key: how near it is to the token after it, and a marker for the last token, which has none after it. -/
def key (x : Fin 4096 → Fin 2048 → EReal) (i : Fin 4096) : EReal :=
  if h : i.val + 1 < 4096 then near x i.val h else Ideal.ofBits .f32 0xC0000000#32

/-- The constants' values. -/
theorem half_val : Ideal.ofBits .f32 0x3F000000#32 = (((1 : ℝ) / 2 : ℝ) : EReal) := by
  simp [Ideal.ofBits, Ideal.ieee, -EReal.coe_mul]; norm_num
theorem pad_val : Ideal.ofBits .f32 0xC0000000#32 = ((-2 : ℝ) : EReal) := by
  simp [Ideal.ofBits, Ideal.ieee, -EReal.coe_mul, -EReal.coe_neg]; norm_num
theorem eps_pos : ∃ e : ℝ, 0 < e ∧ Ideal.ofBits .f32 0x2B8CBCCC#32 = (e : EReal) := by
  refine ⟨9223372 * 2 ^ (-63 : ℤ), by positivity, ?_⟩
  simp [Ideal.ofBits, Ideal.ieee, -EReal.coe_mul]

/-- One half. -/
abbrev half : EReal := Ideal.ofBits .f32 0x3F000000#32

theorem half_nonneg : 0 ≤ half := by rw [half, half_val]; exact EReal.coe_nonneg.mpr (by norm_num)
theorem half_ne_top : half ≠ ⊤ := by rw [half, half_val]; exact EReal.coe_ne_top _
theorem one_sub_half : 1 - half = half := by
  rw [half, half_val, ← EReal.coe_one, ← EReal.coe_sub]
  norm_num

open Classical in
/-- The column `x` with each token of `L` and the token after it replaced by their average. -/
def merged (x : Fin 4096 → EReal) (L : List ℕ) (g : Fin 4096) : EReal :=
  if h : g.val ∈ L ∧ g.val + 1 < 4096 then half * (x g + x ⟨g.val + 1, h.2⟩)
  else if ∃ a ∈ L, a + 1 = g.val then half * (x ⟨g.val - 1, lt_of_le_of_lt (Nat.sub_le _ _) g.isLt⟩ + x g)
  else x g

open Classical in
/-- Weighing a token with the token after it and the token before it, by a half where it is chosen and a half where it follows a chosen
    one, averages the chosen pairs. -/
theorem weighed (x : Fin 4096 → EReal) (L : List ℕ) (g : Fin 4096) (hL : ∀ a ∈ L, a + 1 < 4096)
    (hap : ∀ a ∈ L, ∀ b ∈ L, a = b ∨ (a ≠ b + 1 ∧ b ≠ a + 1)) (ws wr n p : EReal)
    (hws : ws = if g.val ∈ L then half else 0) (hwr : wr = if ∃ a ∈ L, a + 1 = g.val then half else 0)
    (hn : ∀ h : g.val + 1 < 4096, n = x ⟨g.val + 1, h⟩)
    (hp : 0 < g.val → p = x ⟨g.val - 1, lt_of_le_of_lt (Nat.sub_le _ _) g.isLt⟩) :
    ((1 - ws - wr) * x g + ws * n) + wr * p = merged x L g := by
  unfold merged
  by_cases h1 : g.val ∈ L
  · have h2 : ¬∃ a ∈ L, a + 1 = g.val := by
      rintro ⟨a, ha, e⟩
      rcases hap a ha _ h1 with h | ⟨-, h⟩ <;> omega
    rw [hws, hwr, if_pos h1, if_neg h2, dif_pos ⟨h1, hL _ h1⟩, hn (hL _ h1), sub_zero, one_sub_half, zero_mul, add_zero,
      EReal.left_distrib_of_nonneg_of_ne_top half_nonneg half_ne_top]
  · rw [hws, hwr, if_neg h1, dif_neg (fun h => h1 h.1), sub_zero, zero_mul, add_zero]
    by_cases h2 : ∃ a ∈ L, a + 1 = g.val
    · have h3 : 0 < g.val := by obtain ⟨a, -, e⟩ := h2; omega
      rw [if_pos h2, if_pos h2, hp h3, one_sub_half, add_comm (x _) (x g), EReal.left_distrib_of_nonneg_of_ne_top half_nonneg half_ne_top]
    · rw [if_neg h2, if_neg h2, sub_zero, one_mul, zero_mul, add_zero]

end Rows

end
-- ==== Proof.KV.Call0.lean ====
/- What the first call's arrays hold: the rows' directions going in, the tokens' keys coming out. -/
module

public import proofs.«01_k».proof.Proof.KI.Run
public import proofs.«01_k».proof.Proof.KV.Pay
public import proofs.«01_k».proof.Proof.Rows
public import Idealize.ShloMosaic.Lib.Pipeline.ValueKit
public import Idealize.ShloMosaic.Lib.StableHlo.ReadAt
public import Idealize.ShloMosaic.Lib.Claim

@[expose] public section

set_option maxRecDepth 16384

noncomputable section

namespace Cert.KernelIdeal.Val

open Idealize.ShloMosaic Idealize.ShloMosaic.TcCoe Idealize.SL.Sem
open Cert.KernelIdeal Cert.KernelIdeal.Gen Cert.KernelIdeal.Hand
open Idealize.ShloMosaic.Pipeline (Dat)

variable (m : (ℓ : Loc nD τ sig) → Buf (Elt Ideal) ℓ) (c : Dev nD)

/-- The input's elements. -/
abbrev X : FVec Ideal S4x4096x2048 .f32 := m ((c.tc : Thread nD τ).loc main_arg0)
/-- The tokens the keys are computed from: the first batch's rows. -/
def tok (i : Fin 4096) (d : Fin 2048) : EReal := X m c (ix3 0 i d)

theorem v6_at (i : Fin 4096) (d : Fin 2048) :
    (W3 m c (Proc.devRef .tc main_v6) : FVec Ideal S4096x2048 .f32) (ix2 i d) = Rows.unit (tok m c i) d := by
  unfold Rows.unit Rows.len tok X
  delta W3 V3 V2 V1 V0
  after_reads_at

theorem v8_at (t : Fin 32) (d : Fin 2048) :
    (W3 m c (Proc.devRef .tc main_v8) : FVec Ideal S32x1x2048 .f32) (ix3 t 0 d) = Rows.unit (tok m c ⟨128 * t.val, by omega⟩) d := by
  unfold Rows.unit Rows.len tok X
  delta W3 V3 V2 V1 V0
  after_reads_at

theorem idx0 : ∀ t : Fin (cfg0 (F := Ideal)).N, win0_0.index t = ![t.val, 0] ∧ win0_1.index t = ![min (t.val + 1) 31, 0, 0] ∧ win0_2.index t = ![t.val, 0, 0] ∧ (grid0.coords t 0).val = t.val :=
  (by decide +kernel : ∀ t : Fin grid0.N, _)

/-- The first call's result: every token's key. -/
def keys (k : Fin 4096 → EReal) : FVec Ideal S32x128x1 .f32 := fun i => k ⟨(i 0).val * 128 + (i 1).val, by
  have h0 : (i 0).val < 32 := (i 0).isLt
  have h1 : (i 1).val < 128 := (i 1).isLt
  omega⟩

theorem blk0_rows (t : Fin 32) (r : Fin 128) (d : Fin 2048) :
    R0.blk (F := Ideal) (fun c b => W3 m c (Proc.devRef .tc b)) c 0 t (ix2 r d) = Rows.unit (tok m c ⟨t.val * 128 + r.val, by omega⟩) d := by
  rw [← v6_at]
  blk_ext [R0.blk, idx0 t]

theorem blk0_next (t : Fin 32) (d : Fin 2048) (h : t.val + 1 < 32) :
    R0.blk (F := Ideal) (fun c b => W3 m c (Proc.devRef .tc b)) c 1 t (ix3 0 0 d) = Rows.unit (tok m c ⟨128 * (t.val + 1), by omega⟩) d := by
  rw [← v8_at m c ⟨t.val + 1, h⟩]
  blk_ext [R0.blk, idx0 t]

theorem v9_point (t : Fin 32) (r : Fin 128) :
    k0_pay1 (grid0.coords t) (R0.blk (F := Ideal) (fun c b => W3 m c (Proc.devRef .tc b)) c 0 t)
      (R0.blk (F := Ideal) (fun c b => W3 m c (Proc.devRef .tc b)) c 1 t) (ix3 0 r 0) = Rows.key (tok m c) ⟨t.val * 128 + r.val, by omega⟩ := by
  refine (pay0 _ _ _ r).trans ?_
  rw [(idx0 t).2.2.2]
  unfold Rows.key
  by_cases h : t.val * 128 + r.val = 4095
  · rw [if_pos h, dif_neg (by simp only; omega)]
  · rw [if_neg h, dif_pos (by simp only; omega)]
    unfold Rows.near
    refine Finset.sum_congr rfl fun d _ => ?_
    rw [blk0_rows]
    congr 1
    by_cases h' : r.val + 1 < 128
    · rw [dif_pos h', blk0_rows]
      rfl
    · rw [dif_neg h', blk0_next m c t d (by omega)]
      congr 2
      apply Fin.ext
      simp only
      omega

theorem keys_at (k : Fin 4096 → EReal) (t : Fin 32) (y1 : Fin 128) : keys k (ix3 t y1 0) = k ⟨t.val * 128 + y1.val, by omega⟩ := rfl

theorem keys_blk (k : Fin 4096 → EReal) (t : Fin 32) (y1 : Fin 128) :
    keys k (((cfg0 (F := Ideal)).win 2 |>.blk t).view.emb (ix3 0 y1 0)) = k ⟨t.val * 128 + y1.val, by omega⟩ := by
  have e : (((cfg0 (F := Ideal)).win 2 |>.blk t).view.emb (ix3 0 y1 0)) = ix3 t y1 0 := by blk_ext [idx0 t]
  rw [e, keys_at]

theorem v9_after : (d0 m c).arrAt 2 (cfg0 (F := Ideal)).N = keys (Rows.key (tok m c)) := by
  refine Dat.arrAt_eq_of_covers (d0 m c) 2 _ (by decide +kernel) fun t _ y => ?_
  blk_simp
  rw [R0.after_2]
  unfold R0.res
  idx_vars y
  obtain rfl := Subsingleton.elim y0 0
  obtain rfl := Subsingleton.elim y2 0
  exact (v9_point m c t y1).trans (keys_blk _ t y1).symm

end Cert.KernelIdeal.Val
end
-- ==== Proof.KV.Call1.lean ====
/- What the second call's arrays hold: the keys going in, the ranks coming out; and the ranks are a permutation. -/
module

public import proofs.«01_k».proof.Proof.KV.Call0

@[expose] public section

set_option maxRecDepth 16384

noncomputable section

namespace Cert.KernelIdeal.Val

open Idealize.ShloMosaic Idealize.ShloMosaic.TcCoe Idealize.SL.Sem
open Cert.KernelIdeal Cert.KernelIdeal.Gen Cert.KernelIdeal.Hand
open Idealize.ShloMosaic.Pipeline (Dat afterRegion afterRegion_arr)

variable (m : (ℓ : Loc nD τ sig) → Buf (Elt Ideal) ℓ) (c : Dev nD)

theorem W4_v9 : (W4 m c (Proc.devRef .tc main_v9) : FVec Ideal S32x128x1 .f32) = keys (Rows.key (tok m c)) :=
  (afterRegion_arr (d0 m c) (W3 m c) winFacts0.arr_inj 2).trans (v9_after m c)

theorem v11_at (t : Fin 32) (r : Fin 128) :
    (W5 m c (Proc.devRef .tc main_v11) : FVec Ideal S32x128x1 .f32) (ix3 t r 0) = Rows.key (tok m c) ⟨t.val * 128 + r.val, by omega⟩ := by
  rw [← keys_at (Rows.key (tok m c)) t r, ← W4_v9 m c]
  delta W5
  generalize W4 m c = V
  after_reads_at
  have e0 : (⟨(t.val * 128 + r.val) / 128, by omega⟩ : Fin 32) = t := Fin.ext (by simp only; omega)
  have e1 : (⟨(t.val * 128 + r.val) % 128, by omega⟩ : Fin 128) = r := Fin.ext (by simp only; omega)
  rw [e0, e1]

theorem v12_at (j : Fin 4096) :
    (W5 m c (Proc.devRef .tc main_v12) : FVec Ideal S1x4096 .f32) (ix2 0 j) = Rows.key (tok m c) j := by
  have e : Rows.key (tok m c) j = keys (Rows.key (tok m c)) (ix3 ⟨j.val / 128, by omega⟩ ⟨j.val % 128, by omega⟩ 0) := by
    rw [keys_at]
    congr 1
    apply Fin.ext
    simp only
    omega
  rw [e, ← W4_v9 m c]
  delta W5
  generalize W4 m c = V
  after_reads_at

theorem idx1 : ∀ t : Fin (cfg1 (F := Ideal)).N, win1_0.index t = ![t.val, 0, 0] ∧ win1_1.index t = ![0, 0] ∧ win1_2.index t = ![t.val, 0, 0] ∧ (grid1.coords t 0).val = t.val :=
  (by decide +kernel : ∀ t : Fin grid1.N, _)

/-- Token `i`'s rank: how many tokens come before it, the largest key first, ties by place. -/
def rank (k : Fin 4096 → EReal) (i : Fin 4096) : ℕ := before k (k i) i.val

/-- The second call's result: every token's rank. -/
def ranks (k : Fin 4096 → EReal) : IVec S32x128x1 32 := fun i => BitVec.ofNat 32 (rank k ⟨(i 0).val * 128 + (i 1).val, by
  have h0 : (i 0).val < 32 := (i 0).isLt
  have h1 : (i 1).val < 128 := (i 1).isLt
  omega⟩)

theorem ranks_at (k : Fin 4096 → EReal) (t : Fin 32) (y1 : Fin 128) :
    ranks k (ix3 t y1 0) = BitVec.ofNat 32 (rank k ⟨t.val * 128 + y1.val, by omega⟩) := rfl

theorem blk1_own (t : Fin 32) (r : Fin 128) :
    R1.blk (F := Ideal) (fun c b => W5 m c (Proc.devRef .tc b)) c 0 t (ix3 0 r 0) = Rows.key (tok m c) ⟨t.val * 128 + r.val, by omega⟩ := by
  rw [← v11_at]
  blk_ext [R1.blk, idx1 t]

theorem blk1_all (t : Fin 32) (j : Fin 4096) :
    R1.blk (F := Ideal) (fun c b => W5 m c (Proc.devRef .tc b)) c 1 t (ix2 0 j) = Rows.key (tok m c) j := by
  rw [← v12_at]
  blk_ext [R1.blk, idx1 t]

theorem v13_point (t : Fin 32) (r : Fin 128) :
    k1_pay1 (grid1.coords t) (R1.blk (F := Ideal) (fun c b => W5 m c (Proc.devRef .tc b)) c 0 t)
      (R1.blk (F := Ideal) (fun c b => W5 m c (Proc.devRef .tc b)) c 1 t) (ix3 0 r 0)
      = BitVec.ofNat 32 (rank (Rows.key (tok m c)) ⟨t.val * 128 + r.val, by omega⟩) := by
  refine (pay1 _ _ _ r).trans ?_
  rw [(idx1 t).2.2.2, blk1_own]
  unfold rank
  congr 2
  funext x
  exact blk1_all m c t x

theorem ranks_blk (k : Fin 4096 → EReal) (t : Fin 32) (y1 : Fin 128) :
    ranks k (((cfg1 (F := Ideal)).win 2 |>.blk t).view.emb (ix3 0 y1 0)) = BitVec.ofNat 32 (rank k ⟨t.val * 128 + y1.val, by omega⟩) := by
  have e : (((cfg1 (F := Ideal)).win 2 |>.blk t).view.emb (ix3 0 y1 0)) = ix3 t y1 0 := by blk_ext [idx1 t]
  rw [e, ranks_at]

theorem v13_after : (d1 m c).arrAt 2 (cfg1 (F := Ideal)).N = ranks (Rows.key (tok m c)) := by
  refine Dat.arrAt_eq_of_covers (d1 m c) 2 _ (by decide +kernel) fun t _ y => ?_
  blk_simp
  rw [R1.after_2]
  unfold R1.res
  idx_vars y
  obtain rfl := Subsingleton.elim y0 0
  obtain rfl := Subsingleton.elim y2 0
  exact (v13_point m c t y1).trans (ranks_blk _ t y1).symm

theorem W6_v13 : (W6 m c (Proc.devRef .tc main_v13) : IVec S32x128x1 32) = ranks (Rows.key (tok m c)) :=
  (afterRegion_arr (d1 m c) (W5 m c) winFacts1.arr_inj 2).trans (v13_after m c)

theorem v14_at (j : Fin 4096) :
    (W7 m c (Proc.devRef .tc main_v14) : IVec S4096 32) (ix1 j) = BitVec.ofNat 32 (rank (Rows.key (tok m c)) j) := by
  have e : BitVec.ofNat 32 (rank (Rows.key (tok m c)) j)
      = ranks (Rows.key (tok m c)) (ix3 ⟨j.val / 128, by omega⟩ ⟨j.val % 128, by omega⟩ 0) := by
    rw [ranks_at]
    congr 2
    apply Fin.ext
    simp only
    omega
  rw [e, ← W6_v13 m c]
  delta W7
  generalize W6 m c = V
  after_reads_at

/-! ### The ranks are a permutation -/

theorem rank_lt (k : Fin 4096 → EReal) (i : Fin 4096) : rank k i < 4096 := by
  unfold rank before
  refine lt_of_lt_of_le (Finset.card_lt_card (t := Finset.univ) ?_) (by simp)
  refine (Finset.ssubset_univ_iff).mpr fun h => ?_
  have hi := Finset.mem_univ i
  rw [← h, Finset.mem_filter] at hi
  rcases hi.2 with h | h
  · exact lt_irrefl _ h
  · exact lt_irrefl _ h.2

/-- Token `i` comes before token `j`. -/
def Ahead (k : Fin 4096 → EReal) (i j : Fin 4096) : Prop := k j < k i ∨ (k i = k j ∧ i.val < j.val)

theorem rank_mono (k : Fin 4096 → EReal) {i j : Fin 4096} (h : Ahead k i j) : rank k i < rank k j := by
  unfold rank before
  refine Finset.card_lt_card (Finset.ssubset_iff_of_subset ?_ |>.mpr ⟨i, ?_, ?_⟩)
  · intro x hx
    rw [Finset.mem_filter] at hx ⊢
    refine ⟨Finset.mem_univ _, ?_⟩
    rcases h with h | ⟨h, hl⟩ <;> rcases hx.2 with hx | ⟨hx, hxl⟩
    · exact .inl (lt_trans h hx)
    · exact .inl (hx ▸ h)
    · exact .inl (h ▸ hx)
    · exact .inr ⟨hx.trans h, by omega⟩
  · rw [Finset.mem_filter]; exact ⟨Finset.mem_univ _, h⟩
  · rw [Finset.mem_filter]; rintro ⟨-, h | h⟩
    · exact lt_irrefl _ h
    · exact lt_irrefl _ h.2

theorem ahead_total (k : Fin 4096 → EReal) {i j : Fin 4096} (h : i ≠ j) : Ahead k i j ∨ Ahead k j i := by
  unfold Ahead
  rcases lt_trichotomy (k i) (k j) with h1 | h1 | h1
  · exact .inr (.inl h1)
  · have : i.val ≠ j.val := fun e => h (Fin.ext e)
    rcases Nat.lt_or_gt_of_ne this with h2 | h2
    · exact .inl (.inr ⟨h1, h2⟩)
    · exact .inr (.inr ⟨h1.symm, h2⟩)
  · exact .inl (.inl h1)

theorem rank_lt_iff (k : Fin 4096 → EReal) (i j : Fin 4096) : rank k i < rank k j ↔ Ahead k i j := by
  refine ⟨fun h => ?_, rank_mono k⟩
  by_contra hn
  rcases eq_or_ne i j with e | e
  · subst e; exact lt_irrefl _ h
  · rcases ahead_total k e with h' | h'
    · exact hn h'
    · exact lt_asymm h (rank_mono k h')

/-- The ranks as a function of the natural numbers. -/
def rankN (k : Fin 4096 → EReal) (i : ℕ) : ℕ := if h : i < 4096 then rank k ⟨i, h⟩ else 0

theorem rankN_isRank (k : Fin 4096 → EReal) : Greedy.IsRank 4096 (rankN k) where
  lt i h := by unfold rankN; rw [dif_pos h]; exact rank_lt k _
  inj i hi j hj e := by
    unfold rankN at e
    rw [dif_pos hi, dif_pos hj] at e
    by_contra hn
    rcases ahead_total k (i := ⟨i, hi⟩) (j := ⟨j, hj⟩) (fun h => hn (congrArg Fin.val h)) with h | h
    · exact absurd (rank_mono k h) (by omega)
    · exact absurd (rank_mono k h) (by omega)

theorem idx2 : ∀ t : Fin (cfg2 (F := Ideal)).N, win2_0.index t = ![0] ∧ win2_1.index t = ![0, 0] ∧ win2_2.index t = ![0, 0] :=
  (by decide +kernel : ∀ t : Fin grid2.N, _)

theorem blk2_ranks (t : Fin (cfg2 (F := Ideal)).N) :
    rankOf (F := Ideal) (R2.blk (F := Ideal) (fun c b => W7 m c (Proc.devRef .tc b)) c 0 t) = rankN (Rows.key (tok m c)) := by
  funext i
  unfold rankOf rankN
  by_cases h : i < 4096
  · rw [dif_pos h, dif_pos h]
    have e : R2.blk (F := Ideal) (fun c b => W7 m c (Proc.devRef .tc b)) c 0 t (ix1 ⟨i, h⟩)
        = (W7 m c (Proc.devRef .tc main_v14) : IVec S4096 32) (ix1 ⟨i, h⟩) := by
      blk_ext [R2.blk, idx2 t]
    refine (congrArg BitVec.toNat (e.trans (v14_at m c ⟨i, h⟩))).trans ?_
    rw [BitVec.toNat_ofNat, Nat.mod_eq_of_lt]
    exact lt_trans (rank_lt _ _) (by norm_num)
  · rw [dif_neg h, dif_neg h]

/-- The ranks the third call finds are a permutation. -/
theorem ranksOk : RanksOk (F := Ideal) m := fun c t => by
  rw [blk2_ranks]
  exact rankN_isRank _

end Cert.KernelIdeal.Val
end
-- ==== Proof.KV.Call2.lean ====
/- What the third call's arrays hold: the ranks going in, the two weights coming out, a half at each chosen token and a half at the
   token after it. -/
module

public import proofs.«01_k».proof.Proof.KV.Call1

@[expose] public section

set_option maxRecDepth 16384

noncomputable section

namespace Cert.KernelIdeal.Val

open Idealize.ShloMosaic Idealize.ShloMosaic.TcCoe Idealize.SL.Sem
open Cert.KernelIdeal Cert.KernelIdeal.Gen Cert.KernelIdeal.Hand
open Idealize.ShloMosaic.Pipeline (Dat afterRegion afterRegion_arr)

variable (m : (ℓ : Loc nD τ sig) → Buf (Elt Ideal) ℓ) (c : Dev nD)

/-- The tokens chosen: those merged with the token after them, nearest first. -/
def chosen (k : Fin 4096 → EReal) : List ℕ := Greedy.pick 512 (Greedy.orderOf 4096 (rankN k)) 4096

export Rows (half)

open Classical in
/-- A sum that adds a half at each word naming the place is a half if one does, when at most one does. -/
theorem wsum_at (s : ℕ → BitVec 32) (r : Fin 32) (d : Fin 128) : ∀ n,
    (∀ i < n, ∀ j < n, s i = BitVec.ofNat 32 (r.val * 128 + d.val) → s j = BitVec.ofNat 32 (r.val * 128 + d.val) → i = j) →
    wsum (F := Ideal) s n (ix2 r d) = if ∃ j < n, s j = BitVec.ofNat 32 (r.val * 128 + d.val) then half else 0
  | 0, _ => by
    rw [if_neg (by rintro ⟨j, hj, -⟩; omega)]
    exact pay2z r d
  | n + 1, h => by
    refine (pay2a _ _ r d).trans ?_
    rw [wsum_at s r d n fun i hi j hj => h i (by omega) j (by omega)]
    by_cases h1 : BitVec.ofNat 32 (r.val * 128 + d.val) = s n
    · rw [if_pos h1, if_neg, if_pos ⟨n, by omega, h1.symm⟩, zero_add]
      rintro ⟨j, hj, e⟩
      have := h j (by omega) n (by omega) e h1.symm
      omega
    · rw [if_neg h1, add_zero]
      refine if_congr ⟨?_, ?_⟩ rfl rfl
      · rintro ⟨j, hj, e⟩; exact ⟨j, by omega, e⟩
      · rintro ⟨j, hj, e⟩
        refine ⟨j, ?_, e⟩
        rcases Nat.lt_succ_iff_lt_or_eq.mp hj with h' | rfl
        · exact h'
        · exact absurd e.symm h1

open Classical in
theorem wsum'_at (s : ℕ → BitVec 32) (r : Fin 32) (d : Fin 128) : ∀ n,
    (∀ i < n, ∀ j < n, s i + 1#32 = BitVec.ofNat 32 (r.val * 128 + d.val) → s j + 1#32 = BitVec.ofNat 32 (r.val * 128 + d.val) → i = j) →
    wsum' (F := Ideal) s n (ix2 r d) = if ∃ j < n, s j + 1#32 = BitVec.ofNat 32 (r.val * 128 + d.val) then half else 0
  | 0, _ => by
    rw [if_neg (by rintro ⟨j, hj, -⟩; omega)]
    exact pay2z r d
  | n + 1, h => by
    refine (pay2b _ _ r d).trans ?_
    rw [wsum'_at s r d n fun i hi j hj => h i (by omega) j (by omega)]
    by_cases h1 : BitVec.ofNat 32 (r.val * 128 + d.val) = s n + 1#32
    · rw [if_pos h1, if_neg, if_pos ⟨n, by omega, h1.symm⟩, zero_add]
      rintro ⟨j, hj, e⟩
      have := h j (by omega) n (by omega) e h1.symm
      omega
    · rw [if_neg h1, add_zero]
      refine if_congr ⟨?_, ?_⟩ rfl rfl
      · rintro ⟨j, hj, e⟩; exact ⟨j, by omega, e⟩
      · rintro ⟨j, hj, e⟩
        refine ⟨j, ?_, e⟩
        rcases Nat.lt_succ_iff_lt_or_eq.mp hj with h' | rfl
        · exact h'
        · exact absurd e.symm h1

theorem word_inj {a b : ℕ} (ha : a < 2 ^ 32) (hb : b < 2 ^ 32) (h : BitVec.ofNat 32 a = BitVec.ofNat 32 b) : a = b := by
  have := congrArg BitVec.toNat h
  rwa [BitVec.toNat_ofNat, BitVec.toNat_ofNat, Nat.mod_eq_of_lt ha, Nat.mod_eq_of_lt hb] at this

theorem getD_in (L : List ℕ) (n : ℕ) {j : ℕ} (h : j < L.length) : L.getD j n = L[j] := by
  rw [List.getD_eq_getElem?_getD, List.getElem?_eq_getElem h]; rfl
theorem getD_out (L : List ℕ) (n : ℕ) {j : ℕ} (h : L.length ≤ j) : L.getD j n = n := by
  rw [List.getD_eq_getElem?_getD, List.getElem?_eq_none h]; rfl

/-- A list of at most 512 different small numbers, padded with 8192: a number below 8192 is named exactly when it is in the list. -/
theorem getD_mem {L : List ℕ} (hl : L.length ≤ 512) (g : ℕ) (hg : g < 8192) : (∃ j < 512, L.getD j 8192 = g) ↔ g ∈ L := by
  constructor
  · rintro ⟨j, hj, e⟩
    by_cases h : j < L.length
    · rw [getD_in _ _ h] at e
      exact e ▸ List.getElem_mem h
    · rw [getD_out _ _ (by omega)] at e
      omega
  · intro h
    obtain ⟨j, hj, e⟩ := List.getElem_of_mem h
    exact ⟨j, by omega, by rw [getD_in _ _ hj, e]⟩

theorem getD_inj {L : List ℕ} (hn : L.Nodup) {i j g : ℕ} (hg : g < 8192) (hi : L.getD i 8192 = g) (hj : L.getD j 8192 = g) : i = j := by
  have h1 : i < L.length := by by_contra h; rw [getD_out _ _ (by omega)] at hi; omega
  have h2 : j < L.length := by by_contra h; rw [getD_out _ _ (by omega)] at hj; omega
  rw [getD_in _ _ h1] at hi
  rw [getD_in _ _ h2] at hj
  have hp := List.pairwise_iff_getElem.mp hn
  rcases lt_trichotomy i j with h | h | h
  · exact absurd (hi.trans hj.symm) (hp i j h1 h2 h)
  · exact h
  · exact absurd (hj.trans hi.symm) (hp j i h2 h1 h)

section Weights

variable (R : Vec Ideal S4096 .i32) (hb : ∀ g ∈ taken (F := Ideal) R, g < 4096)

theorem getD_lt {L : List ℕ} (hb : ∀ g ∈ L, g < 4096) (j : ℕ) : L.getD j 8192 < 2 ^ 31 := by
  by_cases h : j < L.length
  · rw [getD_in _ _ h]; exact lt_trans (hb _ (List.getElem_mem h)) (by norm_num)
  · rw [getD_out _ _ (by omega)]; norm_num

include hb in
theorem takenWord_eq (j g : ℕ) (hg : g < 8192) : takenWord (F := Ideal) R j = BitVec.ofNat 32 g ↔ (taken (F := Ideal) R).getD j 8192 = g := by
  unfold takenWord
  have := getD_lt hb j
  exact ⟨fun h => word_inj (by omega) (by omega) h, fun h => by rw [h]⟩

include hb in
theorem takenWord_eq' (j g : ℕ) (hg : g < 8192) :
    takenWord (F := Ideal) R j + 1#32 = BitVec.ofNat 32 g ↔ (taken (F := Ideal) R).getD j 8192 + 1 = g := by
  unfold takenWord
  have := getD_lt hb j
  rw [show (1#32 : BitVec 32) = BitVec.ofNat 32 1 from rfl, ← BitVec.ofNat_add]
  exact ⟨fun h => word_inj (by omega) (by omega) h, fun h => by rw [h]⟩

open Classical in
include hb in
theorem wsOf_at (r : Fin 32) (d : Fin 128) :
    wsOf (F := Ideal) R (ix2 r d) = if r.val * 128 + d.val ∈ taken (F := Ideal) R then half else 0 := by
  have hn : (taken (F := Ideal) R).Nodup := Greedy.pick_nodup _ _ _
  have hl : (taken (F := Ideal) R).length ≤ 512 := Greedy.pick_length_le _ _ _
  have hg : r.val * 128 + d.val < 8192 := by omega
  refine (wsum_at _ r d 512 fun i _ j _ hi hj => ?_).trans ?_
  · rw [takenWord_eq R hb _ _ hg] at hi hj
    exact getD_inj hn hg hi hj
  · refine if_congr ?_ rfl rfl
    rw [← getD_mem hl _ hg]
    simp only [takenWord_eq R hb _ _ hg]

open Classical in
include hb in
theorem wrOf_at (r : Fin 32) (d : Fin 128) :
    wrOf (F := Ideal) R (ix2 r d) = if ∃ g ∈ taken (F := Ideal) R, g + 1 = r.val * 128 + d.val then half else 0 := by
  have hn : (taken (F := Ideal) R).Nodup := Greedy.pick_nodup _ _ _
  have hl : (taken (F := Ideal) R).length ≤ 512 := Greedy.pick_length_le _ _ _
  have hg : r.val * 128 + d.val < 8192 := by omega
  refine (wsum'_at _ r d 512 fun i _ j _ hi hj => ?_).trans ?_
  · rw [takenWord_eq' R hb _ _ hg] at hi hj
    exact getD_inj (g := r.val * 128 + d.val - 1) hn (by omega) (by omega) (by omega)
  · refine if_congr ?_ rfl rfl
    simp only [takenWord_eq' R hb _ _ hg]
    constructor
    · rintro ⟨j, hj, e⟩
      exact ⟨_, (getD_mem hl ((taken (F := Ideal) R).getD j 8192) (by omega)).mp ⟨j, hj, rfl⟩, e⟩
    · rintro ⟨g, hgm, e⟩
      obtain ⟨j, hj, e'⟩ := (getD_mem hl g (by have := hb g hgm; omega)).mpr hgm
      exact ⟨j, hj, by rw [e', e]⟩

end Weights

theorem chosen_lt (k : Fin 4096 → EReal) : ∀ g ∈ chosen k, g < 4096 := fun g hg => by
  obtain ⟨i, hi, rfl⟩ := Greedy.mem_pick hg
  exact ((rankN_isRank k).order hi).1

theorem taken_blk (t : Fin (cfg2 (F := Ideal)).N) :
    taken (F := Ideal) (R2.blk (F := Ideal) (fun c b => W7 m c (Proc.devRef .tc b)) c 0 t) = chosen (Rows.key (tok m c)) := by
  unfold taken chosen
  rw [blk2_ranks]

open Classical in
/-- The third call's first result: a half at each chosen token. -/
def atChosen (L : List ℕ) : FVec Ideal S32x128 .f32 := fun i => if (i 0).val * 128 + (i 1).val ∈ L then half else 0
open Classical in
/-- The third call's second result: a half at the token after each chosen token. -/
def afterChosen (L : List ℕ) : FVec Ideal S32x128 .f32 := fun i => if ∃ g ∈ L, g + 1 = (i 0).val * 128 + (i 1).val then half else 0

theorem wsOf_eq (t : Fin (cfg2 (F := Ideal)).N) :
    wsOf (F := Ideal) (R2.blk (F := Ideal) (fun c b => W7 m c (Proc.devRef .tc b)) c 0 t) = atChosen (chosen (Rows.key (tok m c))) := by
  funext y
  idx_vars y
  have h := wsOf_at _ (fun g hg => chosen_lt (Rows.key (tok m c)) g (taken_blk m c t ▸ hg)) y0 y1
  rw [taken_blk m c t] at h
  exact h

theorem wrOf_eq (t : Fin (cfg2 (F := Ideal)).N) :
    wrOf (F := Ideal) (R2.blk (F := Ideal) (fun c b => W7 m c (Proc.devRef .tc b)) c 0 t) = afterChosen (chosen (Rows.key (tok m c))) := by
  funext y
  idx_vars y
  have h := wrOf_at _ (fun g hg => chosen_lt (Rows.key (tok m c)) g (taken_blk m c t ▸ hg)) y0 y1
  rw [taken_blk m c t] at h
  exact h

theorem W8_v15_0 : (W8 m c (Proc.devRef .tc main_v15_0) : FVec Ideal S32x128 .f32) = atChosen (chosen (Rows.key (tok m c))) := by
  refine (afterRegion_arr (d2 m c) (W7 m c) winFacts2.arr_inj 1).trans ?_
  rw [← wsOf_eq m c t2_0]
  refine Dat.arrAt_eq_of_after_last (d2 m c) 1 t2_0 (by decide +kernel) _ fun j => ?_
  blk_simp
  rw [R2.after_1]
  blk_ext [idx2 t2_0]

theorem W8_v15_1 : (W8 m c (Proc.devRef .tc main_v15_1) : FVec Ideal S32x128 .f32) = afterChosen (chosen (Rows.key (tok m c))) := by
  refine (afterRegion_arr (d2 m c) (W7 m c) winFacts2.arr_inj 2).trans ?_
  rw [← wrOf_eq m c t2_0]
  refine Dat.arrAt_eq_of_after_last (d2 m c) 2 t2_0 (by decide +kernel) _ fun j => ?_
  blk_simp
  rw [R2.after_2]
  blk_ext [idx2 t2_0]

end Cert.KernelIdeal.Val
end
-- ==== Proof.KV.Call3.lean ====
/- What the fourth call leaves: the input with each chosen token and the token after it averaged. -/
module

public import proofs.«01_k».proof.Proof.KI.Whole
public import proofs.«01_k».proof.Proof.KV.Call2

@[expose] public section

set_option maxRecDepth 16384

noncomputable section

namespace Cert.KernelIdeal.Val

open Idealize.ShloMosaic Idealize.ShloMosaic.TcCoe Idealize.SL.Sem
open Cert.KernelIdeal Cert.KernelIdeal.Gen Cert.KernelIdeal.Hand
open Idealize.ShloMosaic.Pipeline (Dat afterRegion afterRegion_arr)

variable (m : (ℓ : Loc nD τ sig) → Buf (Elt Ideal) ℓ) (c : Dev nD)

open Classical in
theorem v16_at (k : Fin 8) (r : Fin 512) :
    (W9 m c (Proc.devRef .tc main_v16) : FVec Ideal S8x512x1 .f32) (ix3 k r 0)
      = if k.val * 512 + r.val ∈ chosen (Rows.key (tok m c)) then half else 0 := by
  have e : (if k.val * 512 + r.val ∈ chosen (Rows.key (tok m c)) then half else 0)
      = atChosen (chosen (Rows.key (tok m c))) (ix2 ⟨k.val * 4 + r.val / 128, by omega⟩ ⟨r.val % 128, by omega⟩) := by
    rw [show k.val * 512 + r.val = (k.val * 4 + r.val / 128) * 128 + r.val % 128 by omega]
    rfl
  rw [e, ← W8_v15_0 m c]
  delta W9
  generalize W8 m c = V
  after_reads_at

open Classical in
theorem v17_at (k : Fin 8) (r : Fin 512) :
    (W9 m c (Proc.devRef .tc main_v17) : FVec Ideal S8x512x1 .f32) (ix3 k r 0)
      = if ∃ g ∈ chosen (Rows.key (tok m c)), g + 1 = k.val * 512 + r.val then half else 0 := by
  have e : (if ∃ g ∈ chosen (Rows.key (tok m c)), g + 1 = k.val * 512 + r.val then half else 0)
      = afterChosen (chosen (Rows.key (tok m c))) (ix2 ⟨k.val * 4 + r.val / 128, by omega⟩ ⟨r.val % 128, by omega⟩) := by
    rw [show k.val * 512 + r.val = (k.val * 4 + r.val / 128) * 128 + r.val % 128 by omega]
    rfl
  rw [e, ← W8_v15_1 m c]
  delta W9
  generalize W8 m c = V
  after_reads_at

/-- The input is as it was when the fourth call starts. -/
theorem arg_at : W9 m c (Proc.devRef .tc main_arg0) = m ((c.tc : Thread nD τ).loc main_arg0) :=
  arg_before m c

theorem v19_at (b : Fin 4) (k : Fin 8) (d : Fin 2048) :
    (W9 m c (Proc.devRef .tc main_v19) : FVec Ideal S4x8x1x2048 .f32) (ix4 b k 0 d) = X m c (ix3 b ⟨511 + 512 * k.val, by omega⟩ d) := by
  unfold X
  rw [← arg_at m c]
  delta W9
  generalize W8 m c = V
  after_reads_at

theorem v21_at (b : Fin 4) (k : Fin 8) (d : Fin 2048) :
    (W9 m c (Proc.devRef .tc main_v21) : FVec Ideal S4x8x1x2048 .f32) (ix4 b k 0 d) = X m c (ix3 b ⟨512 * k.val, by omega⟩ d) := by
  unfold X
  rw [← arg_at m c]
  delta W9
  generalize W8 m c = V
  after_reads_at

theorem idx3 : ∀ t : Fin (cfg3 (F := Ideal)).N, win3_0.index t = ![t.val / 8, t.val % 8, 0] ∧ win3_1.index t = ![t.val / 8, t.val % 8 - 1, 0, 0]
    ∧ win3_2.index t = ![t.val / 8, min (t.val % 8 + 1) 7, 0, 0] ∧ win3_3.index t = ![t.val % 8, 0, 0] ∧ win3_4.index t = ![t.val % 8, 0, 0]
    ∧ win3_5.index t = ![t.val / 8, t.val % 8, 0] :=
  (by decide +kernel : ∀ t : Fin grid3.N, _)

local notation "B" => R3.blk (F := Ideal) (fun c b => W9 m c (Proc.devRef Proc.tc b)) c

theorem blk3_0 (t : Fin 32) (r : Fin 512) (d : Fin 2048) :
    B 0 t (ix3 0 r d) = X m c (ix3 ⟨t.val / 8, by omega⟩ ⟨t.val % 8 * 512 + r.val, by omega⟩ d) := by
  unfold X
  rw [← arg_at m c]
  blk_ext [R3.blk, idx3 t]

theorem blk3_1 (t : Fin 32) (d : Fin 2048) :
    B 1 t (ix4 0 0 0 d) = X m c (ix3 ⟨t.val / 8, by omega⟩ ⟨511 + 512 * (t.val % 8 - 1), by omega⟩ d) := by
  rw [← v19_at m c ⟨t.val / 8, by omega⟩ ⟨t.val % 8 - 1, by omega⟩ d]
  blk_ext [R3.blk, idx3 t]

theorem blk3_2 (t : Fin 32) (d : Fin 2048) :
    B 2 t (ix4 0 0 0 d) = X m c (ix3 ⟨t.val / 8, by omega⟩ ⟨512 * min (t.val % 8 + 1) 7, by omega⟩ d) := by
  rw [← v21_at m c ⟨t.val / 8, by omega⟩ ⟨min (t.val % 8 + 1) 7, by omega⟩ d]
  blk_ext [R3.blk, idx3 t]

open Classical in
theorem blk3_3 (t : Fin 32) (r : Fin 512) :
    B 3 t (ix3 0 r 0) = if t.val % 8 * 512 + r.val ∈ chosen (Rows.key (tok m c)) then half else 0 := by
  refine Eq.trans ?_ (v16_at m c ⟨t.val % 8, by omega⟩ r)
  blk_ext [R3.blk, idx3 t]

open Classical in
theorem blk3_4 (t : Fin 32) (r : Fin 512) :
    B 4 t (ix3 0 r 0) = if ∃ g ∈ chosen (Rows.key (tok m c)), g + 1 = t.val % 8 * 512 + r.val then half else 0 := by
  refine Eq.trans ?_ (v17_at m c ⟨t.val % 8, by omega⟩ r)
  blk_ext [R3.blk, idx3 t]

/-! ### The result -/

/-- The result: every batch's columns with the chosen pairs averaged. -/
def mergedAll (x : FVec Ideal S4x4096x2048 .f32) (L : List ℕ) : FVec Ideal S4x4096x2048 .f32 := fun i =>
  Rows.merged (fun g => x (ix3 (i 0) g (i 2))) L (i 1)

theorem mergedAll_at (x : FVec Ideal S4x4096x2048 .f32) (L : List ℕ) (b : Fin 4) (g : Fin 4096) (d : Fin 2048) :
    mergedAll x L (ix3 b g d) = Rows.merged (fun g => x (ix3 b g d)) L g := rfl

theorem chosen_apart (k : Fin 4096 → EReal) : ∀ a ∈ chosen k, ∀ b ∈ chosen k, a = b ∨ (a ≠ b + 1 ∧ b ≠ a + 1) :=
  fun _ ha _ hb => Greedy.pick_apart ha hb

theorem v22_point (hL : ∀ a ∈ chosen (Rows.key (tok m c)), a + 1 < 4096) (t : Fin 32) (r : Fin 512) (d : Fin 2048) :
    k3_pay1 (F := Ideal) (B 0 t) (B 1 t) (B 2 t) (B 3 t) (B 4 t) (ix3 0 r d)
      = mergedAll (X m c) (chosen (Rows.key (tok m c))) (ix3 ⟨t.val / 8, by omega⟩ ⟨t.val % 8 * 512 + r.val, by omega⟩ d) := by
  refine (pay3 _ _ _ _ _ r d).trans ?_
  rw [mergedAll_at, blk3_0]
  refine Rows.weighed (fun g => X m c (ix3 ⟨t.val / 8, by omega⟩ g d)) _ ⟨t.val % 8 * 512 + r.val, by omega⟩ hL (chosen_apart _) _ _ _ _
    (blk3_3 m c t r) (blk3_4 m c t r) (fun h => ?_) (fun h => ?_)
  · simp only at h
    by_cases h1 : r.val + 1 < 512
    · rw [dif_pos h1, blk3_0]
      rfl
    · rw [dif_neg h1, blk3_2]
      have e : 512 * min (t.val % 8 + 1) 7 = t.val % 8 * 512 + r.val + 1 := by omega
      simp only [e]
  · simp only at h
    by_cases h1 : r.val < 1
    · rw [dif_pos h1, blk3_1]
      have e : 511 + 512 * (t.val % 8 - 1) = t.val % 8 * 512 + r.val - 1 := by omega
      simp only [e]
    · rw [dif_neg h1, blk3_0]
      have e : t.val % 8 * 512 + (r.val - 1) = t.val % 8 * 512 + r.val - 1 := by omega
      simp only [e]

theorem merged_blk (x : FVec Ideal S4x4096x2048 .f32) (L : List ℕ) (t : Fin 32) (r : Fin 512) (d : Fin 2048) :
    mergedAll x L (((cfg3 (F := Ideal)).win 5 |>.blk t).view.emb (ix3 0 r d))
      = mergedAll x L (ix3 ⟨t.val / 8, by omega⟩ ⟨t.val % 8 * 512 + r.val, by omega⟩ d) := by
  have e : (((cfg3 (F := Ideal)).win 5 |>.blk t).view.emb (ix3 0 r d))
      = ix3 ⟨t.val / 8, by omega⟩ ⟨t.val % 8 * 512 + r.val, by omega⟩ d := by blk_ext [idx3 t]
  rw [e]

theorem v22_after (hL : ∀ a ∈ chosen (Rows.key (tok m c)), a + 1 < 4096) :
    (d3 m c).arrAt 5 (cfg3 (F := Ideal)).N = mergedAll (X m c) (chosen (Rows.key (tok m c))) := by
  refine Dat.arrAt_eq_of_covers (d3 m c) 5 _ (by decide +kernel) fun t _ y => ?_
  blk_simp
  rw [R3.after_5]
  unfold R3.res
  idx_vars y
  obtain rfl := Subsingleton.elim y0 0
  exact (v22_point m c hL t y1 y2).trans (merged_blk _ _ t y1 y2).symm

theorem W10_v22 (hL : ∀ a ∈ chosen (Rows.key (tok m c)), a + 1 < 4096) :
    W10 m c (Proc.devRef .tc main_v22) = mergedAll (X m c) (chosen (Rows.key (tok m c))) :=
  (afterRegion_arr (d3 m c) (W9 m c) winFacts3.arr_inj 5).trans (v22_after m c hL)

end Cert.KernelIdeal.Val
end
-- ==== Proof.Near.lean ====
/- Neighbouring tokens' nearness is never below minus one: the last token's marker comes after every other key. -/
module

public import proofs.«01_k».proof.Proof.Rows

@[expose] public section

noncomputable section

namespace Rows

open Idealize.ShloMosaic

theorem coe_sum' {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

theorem sq_nonneg' (a : EReal) : 0 ≤ a * a := by
  rcases le_total 0 a with h | h
  · exact EReal.mul_nonneg h h
  · have h' : 0 ≤ -a := EReal.neg_nonneg.mpr h
    have := EReal.mul_nonneg h' h'
    rwa [neg_mul_neg] at this

/-- A direction's entries are real numbers, the sum of their squares at most one. -/
theorem unit_real (v : Fin 2048 → EReal) :
    ∃ u : Fin 2048 → ℝ, (∀ d, unit v d = (u d : EReal)) ∧ ∑ d, u d * u d ≤ 1 := by
  obtain ⟨e, he, heq⟩ := eps_pos
  have hlen : len v = max (Ideal.sqrt (∑ d, v d * v d)) (e : EReal) := by rw [len, heq]
  have hpos : 0 < len v := by rw [hlen]; exact lt_max_of_lt_right (EReal.coe_pos.mpr he)
  have hunit : ∀ d, unit v d = v d * (len v)⁻¹ := fun d => by rw [unit, Ideal.div, if_neg hpos.ne']
  by_cases hS : ∑ d, v d * v d = ⊤
  · refine ⟨fun _ => 0, fun d => ?_, by simp⟩
    rw [hunit, hlen, hS]
    rw [show Ideal.sqrt ⊤ = ⊤ from rfl, max_eq_left le_top, EReal.inv_top, mul_zero, EReal.coe_zero]
  · have hle : ∀ d, v d * v d ≤ ∑ d, v d * v d := fun d => Finset.single_le_sum (fun i _ => sq_nonneg' (v i)) (Finset.mem_univ d)
    have hfin : ∀ d, ∃ a : ℝ, v d = (a : EReal) := fun d => by
      have h1 : v d * v d ≠ ⊤ := fun h => hS (top_le_iff.mp (h ▸ hle d))
      induction hv : v d with
      | bot => rw [hv] at h1; exact absurd rfl h1
      | top => rw [hv] at h1; exact absurd rfl h1
      | coe a => exact ⟨a, rfl⟩
    choose a ha using hfin
    have hsum : ∑ d, v d * v d = ((∑ d, a d * a d : ℝ) : EReal) := by
      rw [coe_sum']
      exact Finset.sum_congr rfl fun d _ => by rw [ha d, EReal.coe_mul]
    have hs : 0 ≤ ∑ d, a d * a d := Finset.sum_nonneg fun d _ => mul_self_nonneg _
    have hl : len v = ((max (Real.sqrt (∑ d, a d * a d)) e : ℝ) : EReal) := by
      rw [hlen, hsum, EReal.coe_strictMono.monotone.map_max]
      congr 1
      exact if_neg (not_lt.mpr hs)
    generalize hℓ : max (Real.sqrt (∑ d, a d * a d)) e = ℓ at hl
    have hℓ0 : 0 < ℓ := hℓ ▸ lt_max_of_lt_right he
    have hℓs : ∑ d, a d * a d ≤ ℓ * ℓ := by
      have h1 : Real.sqrt (∑ d, a d * a d) ≤ ℓ := hℓ ▸ le_max_left _ _
      calc ∑ d, a d * a d = Real.sqrt (∑ d, a d * a d) * Real.sqrt (∑ d, a d * a d) := (Real.mul_self_sqrt hs).symm
        _ ≤ ℓ * ℓ := mul_self_le_mul_self (Real.sqrt_nonneg _) h1
    refine ⟨fun d => a d * ℓ⁻¹, fun d => by rw [hunit, ha d, hl, ← EReal.coe_inv, ← EReal.coe_mul], ?_⟩
    have : ∀ d, a d * ℓ⁻¹ * (a d * ℓ⁻¹) = a d * a d * (ℓ * ℓ)⁻¹ := fun d => by rw [mul_inv]; ring
    simp only [this]
    rw [← Finset.sum_mul]
    have h2 : 0 < ℓ * ℓ := mul_pos hℓ0 hℓ0
    rw [← div_eq_mul_inv]
    exact (div_le_one h2).mpr hℓs

/-- Two neighbouring tokens are nearer than the marker. -/
theorem pad_lt (x : Fin 4096 → Fin 2048 → EReal) (i : ℕ) (h : i + 1 < 4096) :
    Ideal.ofBits .f32 0xC0000000#32 < near x i h := by
  obtain ⟨u, hu, hu1⟩ := unit_real (x ⟨i, Nat.lt_of_succ_lt h⟩)
  obtain ⟨w, hw, hw1⟩ := unit_real (x ⟨i + 1, h⟩)
  have e : near x i h = ((∑ d, u d * w d : ℝ) : EReal) := by
    rw [near, coe_sum']
    exact Finset.sum_congr rfl fun d _ => by rw [hu d, hw d, EReal.coe_mul]
  rw [e, pad_val]
  refine EReal.coe_lt_coe_iff.mpr ?_
  have h3 : ∑ d, -(u d * u d + w d * w d) ≤ ∑ d, 2 * (u d * w d) :=
    Finset.sum_le_sum fun d _ => by nlinarith [mul_self_nonneg (u d + w d)]
  rw [Finset.sum_neg_distrib, Finset.sum_add_distrib, ← Finset.mul_sum] at h3
  linarith

/-- The last token's key is below every other key. -/
theorem key_last_lt (x : Fin 4096 → Fin 2048 → EReal) (i : Fin 4096) (h : i.val + 1 < 4096) (l : Fin 4096) (hl : l.val = 4095) :
    key x l < key x i := by
  have h1 : ¬l.val + 1 < 4096 := by omega
  rw [key, key, dif_neg h1, dif_pos h]
  exact pad_lt x i.val h

end Rows

end
-- ==== Proof.KV.Last.lean ====
/- The last token is never chosen: its key comes last, and the pairs are found before the order reaches it. -/
module

public import proofs.«01_k».proof.Proof.KV.Call3
public import proofs.«01_k».proof.Proof.Near

@[expose] public section

noncomputable section

namespace Cert.KernelIdeal.Val

open Greedy (pick orderOf)

variable (x : Fin 4096 → Fin 2048 → EReal)

/-- The last token. -/
abbrev lastTok : Fin 4096 := ⟨4095, by omega⟩

theorem ahead_last (i : Fin 4096) (h : i ≠ lastTok) : Ahead (Rows.key x) i lastTok := by
  refine .inl (Rows.key_last_lt x i ?_ _ rfl)
  have := i.isLt
  have : i.val ≠ 4095 := fun e => h (Fin.ext e)
  omega

/-- The last token has the last rank. -/
theorem rank_last : rankN (Rows.key x) 4095 = 4095 := by
  have R := rankN_isRank (Rows.key x)
  obtain ⟨i, hi, e⟩ := R.surj (show 4095 < 4096 by omega)
  by_cases h : i = 4095
  · rw [h] at e; exact e
  · have h1 := rank_mono _ (ahead_last x ⟨i, hi⟩ fun e => h (congrArg Fin.val e))
    have h2 : rankN (Rows.key x) i = rank (Rows.key x) ⟨i, hi⟩ := dif_pos hi
    have h3 := rank_lt (Rows.key x) lastTok
    omega

/-- Every earlier place of the order holds an earlier token. -/
theorem order_lt {k : ℕ} (hk : k < 4095) : orderOf 4096 (rankN (Rows.key x)) k < 4095 := by
  obtain ⟨h1, h2⟩ := (rankN_isRank (Rows.key x)).order (show k < 4096 by omega)
  by_contra h
  have e : orderOf 4096 (rankN (Rows.key x)) k = 4095 := by omega
  rw [e, rank_last] at h2
  omega

theorem order_surj {i : ℕ} (hi : i < 4095) : ∃ k < 4095, orderOf 4096 (rankN (Rows.key x)) k = i := by
  have R := rankN_isRank (Rows.key x)
  refine ⟨rankN (Rows.key x) i, ?_, R.order_rk (by omega)⟩
  have h1 := R.lt i (by omega)
  have h2 : rankN (Rows.key x) i ≠ 4095 := fun e => by
    have := R.inj i (by omega) 4095 (by omega) (e.trans (rank_last x).symm)
    omega
  omega

theorem found_all : (pick 512 (orderOf 4096 (rankN (Rows.key x))) 4095).length = 512 :=
  Greedy.pick_length (fun _ hi => order_surj x hi) (by omega)

/-- Looking at the last token chooses nothing more. -/
theorem chosen_eq : chosen (Rows.key x) = pick 512 (orderOf 4096 (rankN (Rows.key x))) 4095 :=
  Greedy.pick_stays (found_all x) 4096 (by omega)

theorem chosen_length : (chosen (Rows.key x)).length = 512 := by rw [chosen_eq, found_all]

theorem chosen_nodup : (chosen (Rows.key x)).Nodup := Greedy.pick_nodup _ _ _

/-- Every chosen token has a token after it. -/
theorem chosen_succ_lt : ∀ a ∈ chosen (Rows.key x), a + 1 < 4096 := fun a ha => by
  rw [chosen_eq] at ha
  obtain ⟨k, hk, e⟩ := Greedy.mem_pick ha
  have := order_lt x hk
  omega

end Cert.KernelIdeal.Val

end
-- ==== Proof.Sort.lean ====
/- A stable sort's order: an element that comes before another is below it, or equal to it and earlier in the given order. -/
module

public import Idealize.ShloMosaic.Lib.SortFacts

@[expose] public section

namespace Stable

open Idealize.ShloMosaic

variable {n : ℕ} {α : Type} [LinearOrder α] (f : Fin n → α)

/-- One element put into its place among elements that all come after it in the given order. -/
theorem insert_ordered (a : Fin n) (l : List (Fin n)) (ha : ∀ b ∈ l, a < b)
    (hl : l.Pairwise fun b c => f b < f c ∨ (f b = f c ∧ b < c)) :
    (insertBefore (fun i j => decide (f i < f j)) a l).Pairwise fun b c => f b < f c ∨ (f b = f c ∧ b < c) := by
  induction l with
  | nil => exact List.pairwise_singleton _ _
  | cons b l ih =>
    rw [List.pairwise_cons] at hl
    have ih := ih (fun c hc => ha c (List.mem_cons_of_mem _ hc)) hl.2
    unfold insertBefore
    split
    · rename_i h
      have h := of_decide_eq_true h
      refine List.pairwise_cons.mpr ⟨fun c hc => ?_, ih⟩
      rcases List.mem_cons.mp ((perm_insertBefore _ a l).mem_iff.mp hc) with rfl | hc'
      · exact .inl h
      · exact hl.1 c hc'
    · rename_i h
      have h : f a ≤ f b := not_lt.mp fun h' => h (decide_eq_true h')
      refine List.pairwise_cons.mpr ⟨fun c hc => ?_, List.pairwise_cons.mpr hl⟩
      have hac := ha c hc
      have hle : f a ≤ f c := by
        rcases List.mem_cons.mp hc with rfl | hc'
        · exact h
        · rcases hl.1 c hc' with h' | h'
          · exact h.trans h'.le
          · exact h.trans h'.1.le
      rcases lt_or_eq_of_le hle with h' | h'
      · exact .inl h'
      · exact .inr ⟨h', hac⟩

theorem sort_ordered (l : List (Fin n)) (hl : l.Pairwise (· < ·)) :
    (stableSort (fun i j => decide (f i < f j)) l).Pairwise fun b c => f b < f c ∨ (f b = f c ∧ b < c) := by
  induction l with
  | nil => exact List.Pairwise.nil
  | cons a l ih =>
    rw [List.pairwise_cons] at hl
    unfold stableSort
    exact insert_ordered f a _ (fun b hb => hl.1 b ((perm_stableSort _ l).mem_iff.mp hb)) (ih hl.2)

/-- The source of an earlier place is below the source of a later place, or equal to it and earlier. -/
theorem sorted (a b : Fin n) (h : a < b) :
    f (sortedFrom (fun i j => decide (f i < f j)) a) < f (sortedFrom (fun i j => decide (f i < f j)) b)
    ∨ (f (sortedFrom (fun i j => decide (f i < f j)) a) = f (sortedFrom (fun i j => decide (f i < f j)) b)
      ∧ sortedFrom (fun i j => decide (f i < f j)) a < sortedFrom (fun i j => decide (f i < f j)) b) := by
  have hp := List.pairwise_iff_get.mp (sort_ordered f (List.finRange n) (List.pairwise_lt_finRange n))
  unfold sortedFrom sortPositions
  exact hp _ _ h

end Stable
-- ==== Proof.Order.lean ====
/- The stable sort of the negated nearness lists the tokens in the order of their ranks. -/
module

public import proofs.«01_k».proof.Proof.KV.Last
public import proofs.«01_k».proof.Proof.Sort

@[expose] public section

noncomputable section

namespace Cert.KernelIdeal.Val

open Idealize.ShloMosaic

/-- A strictly increasing numbering of `n` things by numbers below `n` is the numbering in order. -/
theorem increasing_eq {n : ℕ} (g : Fin n → ℕ) (hg : ∀ a b : Fin n, a < b → g a < g b) (hn : ∀ a, g a < n) (a : Fin n) : g a = a.val := by
  have h1 : ∀ k (h : k < n), k ≤ g ⟨k, h⟩ := fun k => by
    induction k with
    | zero => exact fun _ => Nat.zero_le _
    | succ k ih =>
      intro h
      have h2 := ih (by omega)
      have h3 := hg ⟨k, by omega⟩ ⟨k + 1, h⟩ (Nat.lt_succ_self k)
      omega
  have h2 : ∀ k a (h : a < n), a + k + 1 = n → g ⟨a, h⟩ ≤ a := fun k => by
    induction k with
    | zero => intro a h e; have := hn ⟨a, h⟩; omega
    | succ k ih =>
      intro a h e
      have h3 := ih (a + 1) (by omega) (by omega)
      have h4 := hg ⟨a, h⟩ ⟨a + 1, by omega⟩ (Nat.lt_succ_self a)
      omega
  have := h1 a.val a.isLt
  have := h2 (n - 1 - a.val) a.val a.isLt (by omega)
  exact le_antisymm this (h1 a.val a.isLt)

/-- The sort's `k`-th token has rank `k`. -/
theorem sorted_order (x : Fin 4096 → Fin 2048 → EReal) (f : Fin 4095 → EReal) (hf : ∀ i : Fin 4095, f i = -Rows.near x i.val (by omega))
    (k : Fin 4095) : (sortedFrom (fun i j => decide (f i < f j)) k).val = Greedy.orderOf 4096 (rankN (Rows.key x)) k.val := by
  have R := rankN_isRank (Rows.key x)
  have hk : ∀ i : Fin 4095, f i = -Rows.key x ⟨i.val, by omega⟩ := fun i => by
    rw [hf, Rows.key, dif_pos (show (⟨i.val, by omega⟩ : Fin 4096).val + 1 < 4096 by show i.val + 1 < 4096; omega)]
  have hr : ∀ a b : Fin 4095, a < b → rankN (Rows.key x) (sortedFrom (fun i j => decide (f i < f j)) a).val
      < rankN (Rows.key x) (sortedFrom (fun i j => decide (f i < f j)) b).val := fun a b h => by
    have hs := Stable.sorted f a b h
    generalize sortedFrom (fun i j => decide (f i < f j)) a = p at hs ⊢
    generalize sortedFrom (fun i j => decide (f i < f j)) b = q at hs ⊢
    unfold rankN
    rw [dif_pos (show p.val < 4096 by omega), dif_pos (show q.val < 4096 by omega)]
    refine rank_mono _ ?_
    rw [hk, hk] at hs
    rcases hs with h | ⟨h, h'⟩
    · exact .inl (EReal.neg_lt_neg_iff.mp h)
    · exact .inr ⟨neg_injective h, h'⟩
  have hl : ∀ i : Fin 4095, rankN (Rows.key x) i.val < 4095 := fun i => by
    have h1 := R.lt i.val (by omega)
    have h2 : rankN (Rows.key x) i.val ≠ 4095 := fun e => by
      have := R.inj i.val (by omega) 4095 (by omega) (e.trans (rank_last x).symm)
      omega
    omega
  have e := increasing_eq (fun a => rankN (Rows.key x) (sortedFrom (fun i j => decide (f i < f j)) a).val) hr (fun a => hl _) k
  obtain ⟨h1, h2⟩ := R.order (show k.val < 4096 by omega)
  exact R.inj _ (by omega) _ h1 (e.trans h2.symm)

end Cert.KernelIdeal.Val

end
-- ==== Proof.RV.Frame.lean ====
/- The reference's run: it ends with every buffer at the fold of its operations, the argument unchanged, and it has no
   semaphore at all. -/
module

public import proofs.«01_k».proof.Proof.Gen.ReferenceIdeal.Run

@[expose] public section

set_option maxRecDepth 16384

noncomputable section

namespace Cert.ReferenceIdeal.Val

open Cert.ReferenceIdeal Cert.ReferenceIdeal.Gen Cert.ReferenceIdeal.Value
open Idealize.ShloMosaic Idealize.ShloMosaic.TcCoe Idealize.ShloMosaic.StableHlo
open Idealize.SL Idealize.SL.Sem

variable {F : FTy → Type} [FloatOps F]
variable (m : (ℓ : Loc nD τ sig) → Buf (Elt F) ℓ) (ρ : Dev nD → PrngReg)

/-- The contents of a core's buffers at the end of the program. -/
abbrev final (c : Dev nD) : Valuation τ sig (Elt F) := finalContents condOps preI bodyI postI 4095 m c

/-- The stretches before the loop keep the argument. -/
theorem entry_arg (c : Dev nD) :
    entryContents (F := F) preI m c (Proc.devRef .tc main_arg0) = m ((c.tc : Thread nD τ).loc main_arg0) := by
  simp only [entryContents, afterL_cons, afterL_nil]
  rw [after_of_writes_sub hostOps0_3 _ hostOps0_3_writes (by decide), after_of_writes_sub hostOps0_2 _ hostOps0_2_writes (by decide),
    after_of_writes_sub hostOps0_1 _ hostOps0_1_writes (by decide), after_of_writes_sub hostOps0 _ hostOps0_writes (by decide)]

/-- The loop keeps a buffer its operations do not write. -/
theorem loop_keeps (c : Dev nD) (r : Ref sig .tc) (h : r ∉ condOps_W) (h0 : r ∉ while0Ops0_W) (h1 : r ∉ while0Ops0_1_W) :
    ∀ k, atK m k c (Proc.devRef .tc r) = entryContents (F := F) preI m c (Proc.devRef .tc r)
  | 0 => rfl
  | k + 1 => by
    rw [show atK m (k + 1) c = afterL bodyI (after condOps (atK m k c)) from rfl]
    simp only [afterL_cons, afterL_nil]
    rw [after_of_writes_sub while0Ops0_1 _ while0Ops0_1_writes h1, after_of_writes_sub while0Ops0 _ while0Ops0_writes h0,
      after_of_writes_sub condOps _ condOps_writes h]
    exact loop_keeps c r h h0 h1 k

/-- The contents when the loop has ended. -/
def W0 (c : Dev nD) : Valuation τ sig (Elt F) := after condOps (atK m 4095 c)

theorem W0_keeps (c : Dev nD) (r : Ref sig .tc) (h : r ∉ condOps_W) (h0 : r ∉ while0Ops0_W) (h1 : r ∉ while0Ops0_1_W) :
    W0 m c (Proc.devRef .tc r) = entryContents (F := F) preI m c (Proc.devRef .tc r) :=
  (after_of_writes_sub condOps _ condOps_writes h).trans (loop_keeps m c r h h0 h1 4095)

theorem final_eq (c : Dev nD) : final m c = afterL postI (W0 m c) := rfl

/-- The argument is never written. -/
theorem final_arg (c : Dev nD) : final m c (Proc.devRef .tc main_arg0) = m ((c.tc : Thread nD τ).loc main_arg0) := by
  rw [final_eq, ← entry_arg m c, ← W0_keeps m c main_arg0 (by decide) (by decide) (by decide)]
  generalize W0 m c = V
  simp only [afterL_cons, afterL_nil]
  after_reads_simp

/-- The program has no semaphore. -/
theorem no_sems {α : Type} (f g : GSem nD τ sig → α) : f = g :=
  funext fun x => by
    obtain ⟨t, s⟩ := x
    cases s with
    | reg s => exact Fin.elim0 s
    | dma s => exact Fin.elim0 s

/-- The reference's run, from any memory with every counter at zero: the result holds what the fold says, the argument
    is unchanged and every counter is zero again. -/
theorem run : θ_run (defs (F := F)) (onTc (τ := τ) (main (F := F))) ⟨m, fun _ => 0, ρ⟩
    (fun r => (∀ c : Dev nD, r.2.mem ((c.tc : Thread nD τ).loc main_v82) = final m c (Proc.devRef .tc main_v82)
      ∧ r.2.mem ((c.tc : Thread nD τ).loc main_arg0) = m ((c.tc : Thread nD τ).loc main_arg0)) ∧ r.2.sem = fun _ => 0) :=
  (θ_run _ _ _).mono (fun _ h => ⟨fun c => ⟨h c main_v82 rfl, (h c main_arg0 rfl).trans (final_arg m c)⟩, no_sems _ _⟩) (run_fold m ρ)

end Cert.ReferenceIdeal.Val
-- ==== Proof.Words.lean ====
/- Reading and writing one entry of a vector, and truth values held as one-bit words. -/
module

public import Idealize.ShloMosaic.Lib.Routing.OpsOne
public import Idealize.ShloMosaic.Lib.DynamicIndex
public import Idealize.ShloMosaic.Lib.Pointwise

@[expose] public section

noncomputable section

namespace Words

open Idealize.ShloMosaic

open Classical in
/-- The one-bit word of a proposition. -/
def bit (p : Prop) : BitVec 1 := if p then 1#1 else 0#1

theorem bit_true {p : Prop} (h : p) : bit p = 1#1 := if_pos h
theorem bit_false {p : Prop} (h : ¬p) : bit p = 0#1 := if_neg h
theorem bit_congr {p q : Prop} (h : p ↔ q) : bit p = bit q := by rw [propext h]
theorem bit_eq_one {p : Prop} : bit p = 1#1 ↔ p := by
  unfold bit; split <;> simp_all
theorem bit_not (p : Prop) : ~~~(bit p) = bit ¬p := by
  by_cases h : p
  · rw [bit_true h, bit_false (not_not.mpr h)]; rfl
  · rw [bit_false h, bit_true h]; rfl
theorem bit_and (p q : Prop) : IntOp.andi (bit p) (bit q) = bit (p ∧ q) := by
  by_cases h : p <;> by_cases h' : q <;> simp [bit, h, h'] <;> rfl
theorem bit_or (p q : Prop) : IntOp.ori (bit p) (bit q) = bit (p ∨ q) := by
  by_cases h : p <;> by_cases h' : q <;> simp [bit, h, h'] <;> rfl
theorem bit_word (p : Prop) [Decidable p] : (bit p).setWidth 32 = if p then 1#32 else 0#32 := by
  by_cases h : p
  · rw [bit_true h, if_pos h]; rfl
  · rw [bit_false h, if_neg h]; rfl

theorem toInt_small {n : ℕ} (h : n < 2 ^ 31) : (BitVec.ofNat 32 n).toInt = (n : Int) := StableHlo.Predicate.toInt_ofNat_small n h

theorem slt_small {a b : ℕ} (ha : a < 2 ^ 31) (hb : b < 2 ^ 31) : IntOp.cmpi .slt (BitVec.ofNat 32 a) (BitVec.ofNat 32 b) = bit (a < b) := by
  have h : IntOp.cmpi .slt (BitVec.ofNat 32 a) (BitVec.ofNat 32 b) = 1#1 ↔ a < b := StableHlo.Predicate.slt_ofNat_iff a b ha hb
  by_cases h' : a < b
  · rw [bit_true h']; exact h.mpr h'
  · rw [bit_false h']
    rcases BitVec.eq_zero_or_eq_one (IntOp.cmpi .slt (BitVec.ofNat 32 a) (BitVec.ofNat 32 b)) with e | e
    · exact e
    · exact absurd (h.mp e) h'

/-- An index that is not negative is itself. -/
theorem index_self {s : Shape} {n : ℕ} (h : n < 2 ^ 31) (e : s.Idx → BitVec 32) :
    select (cmpi .slt (fun _ : s.Idx => BitVec.ofNat 32 n) (constantI s 32 0#32)) e (fun _ => BitVec.ofNat 32 n) = fun _ => BitVec.ofNat 32 n :=
  funext fun j => select_slt_zero_of_nonneg _ _ _ j (by rw [toInt_small h]; exact Int.natCast_nonneg n)

theorem wrap_small {n : ℕ} (h : n < 2 ^ 31) (a : BitVec 32) :
    Scalar.select (IntOp.cmpi .slt (BitVec.ofNat 32 n) 0#32) a (BitVec.ofNat 32 n) = BitVec.ofNat 32 n :=
  congrFun (index_self (s := ⟨0, ![]⟩) h fun _ => a) ix0

/-- One entry taken out of a vector. -/
theorem take_one {N : ℕ} {α : Type} (x : (⟨1, ![N]⟩ : Shape).Idx → α) (start : Fin 1 → Int) (h : (⟨1, ![N]⟩ : Shape).Slices (fun _ => 0) ⟨1, ![1]⟩)
    (hc : (⟨1, ![1]⟩ : Shape).ShapeCasts ⟨0, ![]⟩) (i : Fin N) (hs : start 0 = (i.val : Int)) :
    shapeCast ⟨0, ![]⟩ (Host.dynamicSlice ⟨1, ![1]⟩ x start h) hc = fun _ => x (ix1 i) := by
  funext j
  have ho : (⟨1, ![N]⟩ : Shape).Slices (fun _ => i.val) ⟨1, ![1]⟩ := ⟨rfl, fun a => by
    obtain rfl : a = 0 := Subsingleton.elim _ _
    exact i.isLt⟩
  rw [Host.dynamicSlice_eq_extractStridedSlice ⟨1, ![1]⟩ x start (fun _ => i.val) h ho (fun a => by
    obtain rfl : a = 0 := Subsingleton.elim _ _
    exact hs)]
  unfold shapeCast extractStridedSlice
  refine congrArg x (funext fun a => ?_)
  obtain rfl : a = 0 := Subsingleton.elim _ _
  refine Fin.ext ?_
  have : ∀ z : Fin 1, i.val + z.val = i.val := fun z => by omega
  exact this _

/-- One entry of a vector replaced. -/
theorem put_one {N : ℕ} {α : Type} (d : ScatterDims ⟨1, ![N]⟩ ⟨1, ![1]⟩ ⟨0, ![]⟩) (hiw : d.insertedWindowDims = [0])
    (hsd : d.scatterDimsToOperandDims = [0]) (x : (⟨1, ![N]⟩ : Shape).Idx → α) (idx : IVec ⟨1, ![1]⟩ 32)
    (upd : (⟨0, ![]⟩ : Shape).Idx → α) (v : α) (hv : ∀ j, upd j = v) (k : Fin N) (hidx : (idx (ix1 0)).toInt = (k.val : Int)) (e : Fin N) :
    Host.scatter d (fun _ b => b) x idx upd (ix1 e) = if e = k then v else x (ix1 e) := by
  have hl := fun e => Routing.lands_one d hiw hsd idx k (by rw [← ix1_eq_valueIdx]; exact hidx) e
  rw [ix1_eq_valueIdx]
  by_cases h : e = k
  · rw [if_pos h]
    exact Routing.scatter_set_hit d x idx _ _ _ (fun j _ => hv j) ValueIdx.ix0 ((hl e).2 h)
  · rw [if_neg h]
    exact Routing.scatter_set_miss d x idx _ _ fun j q => h ((hl e).1 ((congrArg (fun t => d.resultIdx? t idx) (ValueIdx.eq_ix0 j).symm).trans q))

end Words

end
-- ==== Proof.RV.Loop.lean ====
/- The reference's loop: after each trip its buffers hold the greedy choice among the candidates looked at so far. -/
module

public import proofs.«01_k».proof.Proof.RV.Frame
public import proofs.«01_k».proof.Proof.Model
public import proofs.«01_k».proof.Proof.Words

@[expose] public section

set_option maxRecDepth 16384

noncomputable section

namespace Cert.ReferenceIdeal.Val

open Cert.ReferenceIdeal Cert.ReferenceIdeal.Gen Cert.ReferenceIdeal.Value
open Idealize.ShloMosaic Idealize.ShloMosaic.TcCoe Idealize.ShloMosaic.StableHlo
open Words (bit)
open Greedy (Used pick)

/-- What the carried buffers hold after `k` trips over the candidates `ord`. -/
structure Inv (ord : ℕ → ℕ) (k : ℕ) (V : Valuation τ sig (Elt Ideal)) : Prop where
  order : ∀ j : Fin 4095, (V (Proc.devRef .tc main_v30_0) : IVec S4095 32) (ix1 j) = BitVec.ofNat 32 (ord j.val)
  count : (V (Proc.devRef .tc main_v30_1) : IVec S_ 32) = fun _ => BitVec.ofNat 32 k
  used : ∀ e : Fin 4096, (V (Proc.devRef .tc main_v30_2) : IVec S4096 1) (ix1 e) = bit (Used (pick 512 ord k) e.val)
  sel : ∀ e : Fin 4095, (V (Proc.devRef .tc main_v30_3) : IVec S4095 1) (ix1 e) = bit (e.val ∈ pick 512 ord k)
  found : (V (Proc.devRef .tc main_v30_4) : IVec S_ 32) = fun _ => BitVec.ofNat 32 (pick 512 ord k).length

/-- The candidate is taken. -/
def Ok (ord : ℕ → ℕ) (k : ℕ) : Prop :=
  (¬Used (pick 512 ord k) (ord k) ∧ ¬Used (pick 512 ord k) (ord k + 1)) ∧ (pick 512 ord k).length < 512

theorem pick_succ (ord : ℕ → ℕ) (k : ℕ) : (Ok ord k → pick 512 ord (k + 1) = pick 512 ord k ++ [ord k])
    ∧ (¬Ok ord k → pick 512 ord (k + 1) = pick 512 ord k) :=
  ⟨fun h => if_pos ⟨h.2, h.1.1, h.1.2⟩, fun h => if_neg fun h' => h ⟨⟨h'.2.1, h'.2.2⟩, h'.1⟩⟩

variable {ord : ℕ → ℕ} {k : ℕ} {V : Valuation τ sig (Elt Ideal)}

theorem cand (I : Inv ord k V) (hk : k < 4095) : res_main_while0b_v83 V = fun _ => BitVec.ofNat 32 (ord k) := by
  unfold res_main_while0b_v83
  refine (Words.take_one _ _ _ _ ⟨k, hk⟩ ?_).trans (funext fun _ => I.order ⟨k, hk⟩)
  show ((V (Proc.devRef .tc main_v30_1) : IVec S_ 32) _).toInt = _
  rw [I.count]
  exact Words.toInt_small (by omega)

theorem cand_succ (I : Inv ord k V) (hk : k < 4095) : res_main_while0b_v90 V = fun _ => BitVec.ofNat 32 (ord k + 1) := by
  unfold res_main_while0b_v90
  rw [cand I hk]
  exact funext fun _ => (BitVec.ofNat_add (ord k) 1).symm

/-- Neither the candidate nor the row after it is negative: each is its own index. -/
theorem self_cand (I : Inv ord k V) (hk : k < 4095) (ho : ord k < 4095) (e : IVec S_ 32) :
    select (cmpi .slt (res_main_while0b_v83 V) (constantI S_ 32 0#32)) e (res_main_while0b_v83 V) = fun _ => BitVec.ofNat 32 (ord k) := by
  rw [cand I hk]
  exact Words.index_self (by omega) _

theorem self_90 (I : Inv ord k V) (hk : k < 4095) (ho : ord k < 4095) (e : IVec S_ 32) :
    select (cmpi .slt (res_main_while0b_v90 V) (constantI S_ 32 0#32)) e (res_main_while0b_v90 V) = fun _ => BitVec.ofNat 32 (ord k + 1) := by
  rw [cand_succ I hk]
  exact Words.index_self (by omega) _

theorem self_111 (I : Inv ord k V) (hk : k < 4095) (ho : ord k < 4095) (e : IVec S_ 32) :
    select (cmpi .slt (res_main_while0b_v111 V) (constantI S_ 32 0#32)) e (res_main_while0b_v111 V) = fun _ => BitVec.ofNat 32 (ord k + 1) :=
  self_90 I hk ho e

theorem self_112 (I : Inv ord k V) (hk : k < 4095) (ho : ord k < 4095) (e : IVec S_ 32) :
    select (cmpi .slt (res_main_while0b_v112 V) (constantI S_ 32 0#32)) e (res_main_while0b_v112 V) = fun _ => BitVec.ofNat 32 (ord k + 1) :=
  self_90 I hk ho e

theorem taken (I : Inv ord k V) (hk : k < 4095) (ho : ord k < 4095) : res_main_while0b_v99 V = fun _ => bit (Ok ord k) := by
  unfold res_main_while0b_v99
  have hl : (pick 512 ord k).length ≤ 512 := Greedy.pick_length_le _ _ _
  rw [self_cand I hk ho, self_90 I hk ho, I.found,
    Words.take_one _ _ _ _ ⟨ord k, by omega⟩ (Words.toInt_small (by omega)),
    Words.take_one _ _ _ _ ⟨ord k + 1, by omega⟩ (Words.toInt_small (by omega)), I.used, I.used]
  funext j
  show IntOp.andi (IntOp.andi (~~~(bit _)) (~~~(bit _))) (IntOp.cmpi .slt (BitVec.ofNat 32 _) (BitVec.ofNat 32 512)) = _
  rw [Words.bit_not, Words.bit_not, Words.bit_and, Words.slt_small (by omega) (by omega), Words.bit_and]
  rfl

theorem used_first (I : Inv ord k V) (hk : k < 4095) (ho : ord k < 4095) (e : Fin 4096) :
    (res_main_while0b_v110 V : IVec S4096 1) (ix1 e)
      = if e.val = ord k then bit (Used (pick 512 ord k) e.val ∨ Ok ord k) else bit (Used (pick 512 ord k) e.val) := by
  unfold res_main_while0b_v110
  rw [self_cand I hk ho, taken I hk ho,
    Words.take_one _ _ _ _ ⟨ord k, by omega⟩ (Words.toInt_small (by omega)), I.used]
  refine (Words.put_one _ rfl rfl _ _ _ _ (fun _ => Words.bit_or _ _) ⟨ord k, by omega⟩ (Words.toInt_small (by omega)) e).trans ?_
  rw [I.used]
  by_cases h : e.val = ord k
  · rw [if_pos (Fin.ext h), if_pos h, h]
  · rw [if_neg (fun h' => h (congrArg Fin.val h')), if_neg h]

/-- One trip looks at one more candidate. -/
theorem trip (I : Inv ord k V) (hk : k < 4095) (ho : ord k < 4095) (hn : ord k ∉ pick 512 ord k) : Inv ord (k + 1) (STEP V) where
  order j := by rw [STEP_main_v30_0]; exact I.order j
  count := by
    rw [STEP_main_v30_1]
    unfold step_main_v30_1
    rw [I.count]
    exact funext fun _ => (BitVec.ofNat_add k 1).symm
  used e := by
    rw [STEP_main_v30_2]
    unfold step_main_v30_2
    rw [self_111 I hk ho, self_112 I hk ho, taken I hk ho,
      Words.take_one _ _ _ _ ⟨ord k + 1, by omega⟩ (Words.toInt_small (by omega)), used_first I hk ho, if_neg (by simp)]
    refine (Words.put_one _ rfl rfl _ _ _ _ (fun _ => Words.bit_or _ _) ⟨ord k + 1, by omega⟩ (Words.toInt_small (by omega)) e).trans ?_
    rw [used_first I hk ho]
    by_cases hok : Ok ord k
    · rw [(pick_succ ord k).1 hok, Words.bit_congr (Greedy.used_append _ _ _)]
      by_cases h : e.val = ord k + 1
      · rw [if_pos (Fin.ext h)]; exact Words.bit_congr ⟨fun _ => .inr (.inr h.symm), fun _ => .inr hok⟩
      · rw [if_neg (fun h' => h (congrArg Fin.val h'))]
        by_cases h' : e.val = ord k
        · rw [if_pos h']; exact Words.bit_congr ⟨fun _ => .inr (.inl h'.symm), fun _ => .inr hok⟩
        · rw [if_neg h']; exact Words.bit_congr ⟨.inl, fun q => q.elim id fun q => by omega⟩
    · rw [(pick_succ ord k).2 hok]
      by_cases h : e.val = ord k + 1
      · rw [if_pos (Fin.ext h), h]; exact Words.bit_congr (or_iff_left hok)
      · rw [if_neg (fun h' => h (congrArg Fin.val h'))]
        by_cases h' : e.val = ord k
        · rw [if_pos h']; exact Words.bit_congr ⟨fun q => q.resolve_right hok, .inl⟩
        · rw [if_neg h']
  sel e := by
    rw [STEP_main_v30_3]
    unfold step_main_v30_3
    rw [self_cand I hk ho, taken I hk ho]
    refine (Words.put_one _ rfl rfl _ _ _ _ (fun _ => rfl) ⟨ord k, ho⟩ (Words.toInt_small (by omega)) e).trans ?_
    rw [I.sel]
    by_cases hok : Ok ord k
    · rw [(pick_succ ord k).1 hok]
      by_cases h : e.val = ord k
      · rw [if_pos (Fin.ext h)]; exact Words.bit_congr ⟨fun _ => by rw [h]; simp, fun _ => hok⟩
      · rw [if_neg (fun h' => h (congrArg Fin.val h'))]
        exact Words.bit_congr ⟨fun q => List.mem_append_left _ q, fun q => (List.mem_append.mp q).elim id fun q => absurd (List.mem_singleton.mp q) h⟩
    · rw [(pick_succ ord k).2 hok]
      by_cases h : e.val = ord k
      · rw [if_pos (Fin.ext h)]; exact Words.bit_congr ⟨fun q => absurd q hok, fun q => absurd (h ▸ q) hn⟩
      · rw [if_neg (fun h' => h (congrArg Fin.val h'))]
  found := by
    rw [STEP_main_v30_4]
    unfold step_main_v30_4
    rw [I.found, taken I hk ho]
    funext j
    show BitVec.ofNat 32 _ + (bit (Ok ord k)).setWidth 32 = _
    by_cases hok : Ok ord k
    · rw [(pick_succ ord k).1 hok, Words.bit_true hok, List.length_append, BitVec.ofNat_add]; rfl
    · rw [(pick_succ ord k).2 hok, Words.bit_false hok]; exact BitVec.add_zero _

variable (m : (ℓ : Loc nD τ sig) → Buf (Elt Ideal) ℓ) (c : Dev nD)

/-- The trips from the loop's entry. -/
theorem trips (ho : ∀ k < 4095, ord k < 4095) (hi : ∀ i < 4095, ∀ j < 4095, ord i = ord j → i = j) {W : Valuation τ sig (Elt Ideal)}
    (I : Inv ord 0 W) : ∀ k ≤ 4095, Inv ord k (STEP^[k] W)
  | 0, _ => I
  | k + 1, hk => by
    rw [Function.iterate_succ_apply']
    refine trip (trips ho hi I k (by omega)) (by omega) (ho k (by omega)) fun hm => ?_
    obtain ⟨n, hn, e⟩ := Greedy.mem_pick hm
    exact absurd (hi n (by omega) k (by omega) e) (by omega)

/-- At the loop's end the selection holds the greedy choice among all the candidates. -/
theorem chosen_after (ho : ∀ k < 4095, ord k < 4095) (hi : ∀ i < 4095, ∀ j < 4095, ord i = ord j → i = j)
    (I : Inv ord 0 (entryContents preI m c)) (e : Fin 4095) :
    (W0 m c (Proc.devRef .tc main_v30_3) : IVec S4095 1) (ix1 e) = bit (e.val ∈ pick 512 ord 4095) := by
  have h1 : W0 m c (Proc.devRef .tc main_v30_3) = atK m 4095 c (Proc.devRef .tc main_v30_3) :=
    cond_keeps (atK m 4095 c) main_v30_3 (by decide)
  have h2 : atK m 4095 c (Proc.devRef .tc main_v30_3) = STEP^[4095] (entryContents preI m c) (Proc.devRef .tc main_v30_3) :=
    atK_agree m c 4095 main_v30_3 (by decide)
  rw [h1, h2]
  exact (trips ho hi I 4095 le_rfl).sel e

end Cert.ReferenceIdeal.Val

end
-- ==== Proof.Take.lean ====
/- Taking rows and entries by index words, counting words into bins, running totals: each read at one index. -/
module

public import proofs.«01_k».proof.Proof.Words
public import Idealize.ShloMosaic.Lib.Routing.OpsPair

@[expose] public section

noncomputable section

namespace Words

open Idealize.ShloMosaic

/-- The dimension numbers of a take along the middle axis. -/
abbrev midDims (A N C n : ℕ) (wf : GatherDims.WF ⟨3, ![A, N, C]⟩ ⟨2, ![n, 1]⟩ ⟨3, ![A, n, C]⟩ [0, 2] [1] [] [1] [] 1 ![A, 1, C]) :
    GatherDims ⟨3, ![A, N, C]⟩ ⟨2, ![n, 1]⟩ ⟨3, ![A, n, C]⟩ where
  offsetDims := [0, 2]
  collapsedSliceDims := [1]
  operandBatchingDims := []
  startIndicesBatchingDims := []
  startIndexMap := [1]
  indexVectorDim := 1
  sliceSizes := ![A, 1, C]
  wf := wf

/-- A take along the middle axis: entry `(b, s, d)` is the operand's at `(b, k, d)`, where `k` is the `s`-th index word. -/
theorem take_mid {α : Type} {A N C n : ℕ}
    (wf : GatherDims.WF ⟨3, ![A, N, C]⟩ ⟨2, ![n, 1]⟩ ⟨3, ![A, n, C]⟩ [0, 2] [1] [] [1] [] 1 ![A, 1, C])
    (x : (⟨3, ![A, N, C]⟩ : Shape).Idx → α) (idx : IVec ⟨2, ![n, 1]⟩ 32) (b : Fin A) (s : Fin n) (d : Fin C) (k : Fin N)
    (hk : (idx (ix2 s 0)).toInt = (k.val : Int)) : Host.gather (midDims A N C n wf) x idx (ix3 b s d) = x (ix3 b k d) := by
  unfold Host.gather
  refine congrArg x (funext fun a => Fin.ext ?_)
  show (midDims A N C n wf).start (ix3 b s d) idx a + (midDims A N C n wf).batchCoord (ix3 b s d) a
    + (midDims A N C n wf).offCoord (ix3 b s d) a = _
  rw [GatherDims.batchCoord_eq_zero _ _ _ List.not_mem_nil, Nat.add_zero]
  have h1 : (1 : Fin 3) ∈ (midDims A N C n wf).startIndexMap := List.mem_singleton.mpr rfl
  have hsi : (midDims A N C n wf).siIdx (ix3 b s d) ⟨List.idxOf (1 : Fin 3) (midDims A N C n wf).startIndexMap,
      List.idxOf_lt_length_iff.2 h1⟩ = ix2 s 0 := by
    funext a
    refine Fin.ext ?_
    match a with
    | ⟨0, _⟩ => rfl
    | ⟨1, _⟩ => rfl
  match a with
  | ⟨0, _⟩ =>
    have hn : (0 : Fin 3) ∉ ([1] : List (Fin 3)) := by decide
    show (midDims A N C n wf).start (ix3 b s d) idx 0 + (midDims A N C n wf).offCoord (ix3 b s d) 0 = _
    unfold GatherDims.start GatherDims.offCoord
    rw [dif_neg hn, dif_pos (((midDims A N C n wf).mem_sKept 0).2 ⟨hn, List.not_mem_nil⟩), Nat.zero_add]
    rfl
  | ⟨1, _⟩ =>
    show (midDims A N C n wf).start (ix3 b s d) idx 1 + (midDims A N C n wf).offCoord (ix3 b s d) 1 = k.val
    rw [GatherDims.offCoord_eq_zero _ _ _ (fun h => (((midDims A N C n wf).mem_sKept 1).1 h).1 (List.mem_singleton.mpr rfl)), Nat.add_zero]
    unfold GatherDims.start
    rw [dif_pos h1, hsi, hk]
    have := k.isLt
    show min ((k.val : Int)).toNat (N - 1) = k.val
    omega
  | ⟨2, _⟩ =>
    have hn : (2 : Fin 3) ∉ ([1] : List (Fin 3)) := by decide
    show (midDims A N C n wf).start (ix3 b s d) idx 2 + (midDims A N C n wf).offCoord (ix3 b s d) 2 = _
    unfold GatherDims.start GatherDims.offCoord
    rw [dif_neg hn, dif_pos (((midDims A N C n wf).mem_sKept 2).2 ⟨hn, List.not_mem_nil⟩), Nat.zero_add]
    rfl

/-- The dimension numbers of a take of single entries by three index words each. -/
abbrev entryDims (A N C n : ℕ) (wf : GatherDims.WF ⟨3, ![A, N, C]⟩ ⟨2, ![n, 3]⟩ ⟨1, ![n]⟩ [] [0, 1, 2] [] [0, 1, 2] [] 1 ![1, 1, 1]) :
    GatherDims ⟨3, ![A, N, C]⟩ ⟨2, ![n, 3]⟩ ⟨1, ![n]⟩ where
  offsetDims := []
  collapsedSliceDims := [0, 1, 2]
  operandBatchingDims := []
  startIndicesBatchingDims := []
  startIndexMap := [0, 1, 2]
  indexVectorDim := 1
  sliceSizes := ![1, 1, 1]
  wf := wf

/-- A take of single entries: entry `s` is the operand's at the place the `s`-th three index words name. -/
theorem take_entry {α : Type} {A N C n : ℕ}
    (wf : GatherDims.WF ⟨3, ![A, N, C]⟩ ⟨2, ![n, 3]⟩ ⟨1, ![n]⟩ [] [0, 1, 2] [] [0, 1, 2] [] 1 ![1, 1, 1])
    (x : (⟨3, ![A, N, C]⟩ : Shape).Idx → α) (idx : IVec ⟨2, ![n, 3]⟩ 32) (s : Fin n) (i : Fin A) (j : Fin N) (k : Fin C)
    (hi : (idx (ix2 s 0)).toInt = (i.val : Int)) (hj : (idx (ix2 s 1)).toInt = (j.val : Int)) (hk : (idx (ix2 s 2)).toInt = (k.val : Int)) :
    Host.gather (entryDims A N C n wf) x idx (ix1 s) = x (ix3 i j k) := by
  unfold Host.gather
  refine congrArg x (funext fun a => Fin.ext ?_)
  show (entryDims A N C n wf).start (ix1 s) idx a + (entryDims A N C n wf).batchCoord (ix1 s) a
    + (entryDims A N C n wf).offCoord (ix1 s) a = _
  have hm : ∀ a : Fin 3, a ∈ (entryDims A N C n wf).startIndexMap := fun a => by
    show a ∈ ([0, 1, 2] : List (Fin 3))
    fin_cases a <;> simp
  have hc : ∀ a : Fin 3, a ∈ (entryDims A N C n wf).collapsedSliceDims := hm
  rw [GatherDims.batchCoord_eq_zero _ _ _ List.not_mem_nil,
    GatherDims.offCoord_eq_zero _ _ _ (fun h => (((entryDims A N C n wf).mem_sKept a).1 h).1 (hc a)), Nat.add_zero]
  have hsi : ∀ a : Fin 3, (entryDims A N C n wf).siIdx (ix1 s) ⟨List.idxOf a (entryDims A N C n wf).startIndexMap,
      List.idxOf_lt_length_iff.2 (hm a)⟩ = ix2 s a := fun a => by
    funext b
    refine Fin.ext ?_
    match b with
    | ⟨0, _⟩ => rfl
    | ⟨1, _⟩ => fin_cases a <;> rfl
  unfold GatherDims.start
  rw [dif_pos (hm a), hsi a]
  match a with
  | ⟨0, _⟩ =>
    show min ((idx (ix2 s 0)).toInt).toNat (A - 1) = i.val
    rw [hi]
    omega
  | ⟨1, _⟩ =>
    show min ((idx (ix2 s 1)).toInt).toNat (N - 1) = j.val
    rw [hj]
    omega
  | ⟨2, _⟩ =>
    show min ((idx (ix2 s 2)).toInt).toNat (C - 1) = k.val
    rw [hk]
    omega

/-- The dimension numbers of a count into `M` bins of `N` index words. -/
abbrev binDims (M N : ℕ) (wf : ScatterDims.WF ⟨1, ![M]⟩ ⟨2, ![N, 1]⟩ ⟨1, ![N]⟩ [] [0] [0] 1) :
    ScatterDims ⟨1, ![M]⟩ ⟨2, ![N, 1]⟩ ⟨1, ![N]⟩ where
  updateWindowDims := []
  insertedWindowDims := [0]
  scatterDimsToOperandDims := [0]
  indexVectorDim := 1
  wf := wf

/-- Counting `N` index words into `M` bins: bin `e` holds the number of words equal to `e`; a word naming no bin counts nowhere. -/
theorem bins {M N : ℕ} (wf : ScatterDims.WF ⟨1, ![M]⟩ ⟨2, ![N, 1]⟩ ⟨1, ![N]⟩ [] [0] [0] 1) (z : IVec ⟨1, ![M]⟩ 32)
    (hz : ∀ i, z i = 0#32) (idx : IVec ⟨2, ![N, 1]⟩ 32) (one : IVec ⟨1, ![N]⟩ 32) (h1 : ∀ i, one i = 1#32) (g : ℕ → ℕ)
    (hg : ∀ i : Fin N, (idx (ix2 i 0)).toInt = (g i.val : Int)) (e : Fin M) :
    Host.scatter (binDims M N wf) IntOp.addi z idx one (ix1 e)
      = BitVec.ofNat 32 ((Finset.range N).filter fun u => g u = e.val).card := by
  have hl : ∀ i : Fin N, (binDims M N wf).resultIdx? (ix1 i) idx = some (ix1 e) ↔ g i.val = e.val := fun i => by
    have hm : (0 : Fin 1) ∈ (binDims M N wf).scatterDimsToOperandDims := List.mem_singleton.mpr rfl
    have hw : (binDims M N wf).window (ix1 i) 0 = 0 := by
      unfold ScatterDims.window
      have ha : (0 : Fin 1) ∈ (binDims M N wf).insertedWindowDims := List.mem_singleton.mpr rfl
      have hk : (0 : Fin 1) ∉ (binDims M N wf).sKept := fun h => (of_decide_eq_true (List.mem_filter.1 h).2) ha
      rw [dif_neg hk]
    have hsi : (binDims M N wf).siIdx (ix1 i) ⟨List.idxOf (0 : Fin 1) (binDims M N wf).scatterDimsToOperandDims,
        List.idxOf_lt_length_iff.2 hm⟩ = ix2 i 0 := by
      funext b
      refine Fin.ext ?_
      match b with
      | ⟨0, _⟩ => rfl
      | ⟨1, _⟩ => rfl
    have hs : (binDims M N wf).start (ix1 i) idx 0 = (g i.val : Int) := by
      unfold ScatterDims.start
      rw [dif_pos hm, hsi, hg]
    rw [ix1_eq_valueIdx e, Routing.resultIdx?_ix1, hs, hw]
    omega
  rw [← Nat.count_eq_card_filter_range, ← Routing.countP_finRange]
  unfold Host.scatter
  have hN : (⟨1, ![N]⟩ : Shape).numel = N := Routing.numel1 N
  refine (Routing.foldl_count _ (ix1 e) (fun n => decide (g n.val = e.val)) (fun r n => ?_) _ z 0 (hz _)).trans ?_
  · have hn : (⟨1, ![N]⟩ : Shape).rowMajor.symm n = ix1 (n.cast hN) := (Routing.symm1 n).trans (ix1_eq_valueIdx _).symm
    have hi : _ ↔ g n.val = e.val := hl (n.cast hN)
    rw [hn, h1]
    by_cases h : g n.val = e.val
    · rw [hi.2 h, if_pos (decide_eq_true h)]
      exact if_pos rfl
    · rw [if_neg fun q => h (of_decide_eq_true q)]
      cases hr : (binDims M N wf).resultIdx? (ix1 (n.cast hN)) idx with
      | none => rfl
      | some q => exact if_neg fun q' => h (hi.1 (by rw [hr, q']))
  · rw [Nat.zero_add, Routing.countP_finRange _ (fun i => g i = e.val), Routing.countP_finRange _ (fun i => g i = e.val)]
    exact congrArg (fun k => BitVec.ofNat 32 (Nat.count (fun i => g i = e.val) k)) hN

/-- The second vector of a sort of two: entry `k` is the one that the stable sort by the comparison puts at place `k`. -/
theorem sort_second {N : ℕ} {α β : Type} (cmp : α × β → α × β → BitVec 1) (x : (⟨1, ![N]⟩ : Shape).Idx → α)
    (y : (⟨1, ![N]⟩ : Shape).Idx → β) (k : Fin N) :
    (Host.sort2 ⟨1, ![N]⟩ 0 cmp x y).2 (ix1 k)
      = y (ix1 (sortedFrom (fun i j : Fin N => cmp (x (ix1 i), y (ix1 i)) (x (ix1 j), y (ix1 j)) == 1#1) k)) := by
  have ha : ∀ j : (⟨1, ![N]⟩ : Shape).Idx, ∀ i : Fin N, Shape.Idx.along j 0 i = ix1 i := fun j i => funext fun a => by
    obtain rfl : a = 0 := Subsingleton.elim _ _
    rfl
  unfold Host.sort2
  rw [dif_pos (show 0 < (⟨1, ![N]⟩ : Shape).rank from Nat.one_pos)]
  refine congrArg y ((ha _ _).trans (congrArg ix1 ?_))
  refine congrArg (fun lt : Fin N → Fin N → Bool => sortedFrom lt k) (funext fun i => funext fun j => ?_)
  exact congrArg₂ (fun p q => cmp (x p, y p) (x q, y q) == 1#1) (ha _ i) (ha _ j)

/-- Running totals of words that hold small numbers. -/
theorem totals {N K : ℕ} (hN : K + 1 = N) (x : IVec ⟨1, ![N]⟩ 32) (f : ℕ → ℕ) (hx : ∀ i : Fin N, x (ix1 i) = BitVec.ofNat 32 (f i.val))
    (z : IVec ⟨0, ![]⟩ 32) (hz : ∀ i, z i = 0#32)
    (h : (⟨1, ![N]⟩ : Shape).ReduceWindows (![N] : Fin 1 → ℕ) ![1] ![K] ![0] ⟨1, ![N]⟩) (hu : 0 < (⟨0, ![]⟩ : Shape).numel) (j : Fin N) :
    Host.reduceWindow IntOp.addi ![N] ![1] ![K] ![0] x z h hu (ix1 j) = BitVec.ofNat 32 ((List.range (j.val + 1)).map f).sum := by
  rw [ix1_eq_valueIdx]
  exact Routing.cumsum1 hN x f (fun i => by rw [← ix1_eq_valueIdx]; exact hx i) z (hz _) h hu j

end Words

end
-- ==== Proof.RV.Entry.lean ====
/- What the reference's buffers hold when its loop begins. -/
module

public import proofs.«01_k».proof.Proof.RV.Loop
public import proofs.«01_k».proof.Proof.Take
public import proofs.«01_k».proof.Proof.Rows
public import proofs.«01_k».proof.Proof.Sort
public import Idealize.ShloMosaic.Lib.Pipeline.ValueKit
public import Idealize.ShloMosaic.Lib.StableHlo.ReadAt
public import Idealize.ShloMosaic.Lib.Claim

@[expose] public section

set_option maxRecDepth 16384

noncomputable section

namespace Cert.ReferenceIdeal.Val

open Cert.ReferenceIdeal Cert.ReferenceIdeal.Gen Cert.ReferenceIdeal.Value
open Idealize.ShloMosaic Idealize.ShloMosaic.TcCoe Idealize.ShloMosaic.StableHlo

variable (m : (ℓ : Loc nD τ sig) → Buf (Elt Ideal) ℓ) (c : Dev nD)

/-- The input's elements. -/
abbrev X : FVec Ideal S4x4096x2048 .f32 := m ((c.tc : Thread nD τ).loc main_arg0)
/-- The tokens the nearness is computed from: the first batch's rows. -/
def tok (i : Fin 4096) (d : Fin 2048) : EReal := X m c (ix3 0 i d)

/-- The contents after the lengths, and after the nearness. -/
def E0 : Valuation τ sig (Elt Ideal) := after hostOps0 (launchContents m c)
def E1 : Valuation τ sig (Elt Ideal) := after hostOps0_1 (E0 m c)

theorem v5_at (i j : Fin 4096) :
    (E1 m c (Proc.devRef .tc main_v5) : FVec Ideal S4x4096x4096 .f32) (ix3 0 i j)
      = ∑ d, Rows.unit (tok m c i) d * Rows.unit (tok m c j) d := by
  unfold Rows.unit Rows.len tok X
  delta E1 E0
  after_reads_at

theorem v21_at (s : Fin 4095) : (E1 m c (Proc.devRef .tc main_v21) : IVec S4095x1 32) (ix2 s 0) = 0#32 := by
  delta E1; generalize E0 m c = V
  after_reads_at
  rfl

theorem v22_at (s : Fin 4095) : (E1 m c (Proc.devRef .tc main_v22) : IVec S4095x1 32) (ix2 s 0) = BitVec.ofNat 32 s.val := by
  delta E1; generalize E0 m c = V
  after_reads_at
  exact Words.wrap_small (by omega) _

theorem v23_at (s : Fin 4095) : (E1 m c (Proc.devRef .tc main_v23) : IVec S4095x1 32) (ix2 s 0) = BitVec.ofNat 32 (s.val + 1) := by
  delta E1; generalize E0 m c = V
  after_reads_at
  have e : IntOp.addi (BitVec.ofNat 32 s.val) 1#32 = BitVec.ofNat 32 (s.val + 1) := (BitVec.ofNat_add s.val 1).symm
  rw [e]
  exact Words.wrap_small (by omega) _

theorem v24_eq : (E1 m c (Proc.devRef .tc main_v24) : IVec S4095x3 32)
    = concatenate S4095x3 1 [⟨S4095x1, (E1 m c (Proc.devRef .tc main_v21) : IVec S4095x1 32)⟩,
        ⟨S4095x1, (E1 m c (Proc.devRef .tc main_v22) : IVec S4095x1 32)⟩, ⟨S4095x1, (E1 m c (Proc.devRef .tc main_v23) : IVec S4095x1 32)⟩]
      concatenates_S4095x1_S4095x1_S4095x1_S4095x3_d1 := by
  delta E1; generalize E0 m c = V
  after_reads_simp
  rfl

/-- The three words that name a neighbouring pair's entry: the first batch, the token and the token after it. -/
theorem v24_at (s : Fin 4095) : (E1 m c (Proc.devRef .tc main_v24) : IVec S4095x3 32) (ix2 s 0) = 0#32
    ∧ (E1 m c (Proc.devRef .tc main_v24) : IVec S4095x3 32) (ix2 s 1) = BitVec.ofNat 32 s.val
    ∧ (E1 m c (Proc.devRef .tc main_v24) : IVec S4095x3 32) (ix2 s 2) = BitVec.ofNat 32 (s.val + 1) := by
  have h0 := v21_at m c s
  have h1 := v22_at m c s
  have h2 := v23_at m c s
  rw [v24_eq]
  generalize (E1 m c (Proc.devRef .tc main_v21) : IVec S4095x1 32) = a at h0 ⊢
  generalize (E1 m c (Proc.devRef .tc main_v22) : IVec S4095x1 32) = b at h1 ⊢
  generalize (E1 m c (Proc.devRef .tc main_v23) : IVec S4095x1 32) = d at h2 ⊢
  refine ⟨?_, ?_, ?_⟩
  · rw [← h0]; pointwise
  · rw [← h1]; pointwise
  · rw [← h2]; pointwise

theorem v26_eq : (E1 m c (Proc.devRef .tc main_v26) : FVec Ideal S4095 .f32)
    = Host.negf (F := Ideal) (φ := .f32) (Host.gather gather_S4x4096x4096_S4095x3_S4095_n_012_n_n_012_1_111
      (E1 m c (Proc.devRef .tc main_v5) : FVec Ideal S4x4096x4096 .f32) (E1 m c (Proc.devRef .tc main_v24) : IVec S4095x3 32)) := by
  delta E1; generalize E0 m c = V
  after_reads_simp

/-- What is sorted: every token's nearness to the token after it, negated. -/
def far (x : Fin 4096 → Fin 2048 → EReal) (i : Fin 4095) : EReal := -Rows.near x i.val (by omega)

theorem v26_at (s : Fin 4095) : (E1 m c (Proc.devRef .tc main_v26) : FVec Ideal S4095 .f32) (ix1 s) = far (tok m c) s := by
  obtain ⟨h0, h1, h2⟩ := v24_at m c s
  rw [v26_eq]
  refine congrArg (fun t : EReal => -t) ?_
  refine (Words.take_entry _ _ _ s 0 ⟨s.val, by omega⟩ ⟨s.val + 1, by omega⟩ ?_ ?_ ?_).trans (v5_at m c _ _)
  · rw [h0]; rfl
  · rw [h1]; exact Words.toInt_small (by omega)
  · rw [h2]; exact Words.toInt_small (by omega)

/-- The comparison the sort uses. -/
theorem comparator_eq (l r : EReal × BitVec 32) : (comparator_f32_i32_d0 (F := Ideal) l r == 1#1) = decide (l.1 < r.1) := by
  obtain ⟨a, i⟩ := l
  obtain ⟨b, j⟩ := r
  have hz : ∀ x z : EReal, Scalar.select (Ideal.cmp .oeq x z) z x = x := fun x z => by
    unfold Scalar.select Ideal.cmp
    by_cases h : x = z
    · simp [h]
    · simp [h]
  have hn : ∀ x y : EReal, Scalar.select (Ideal.cmp .une x x) y x = x := fun x y => by
    unfold Scalar.select Ideal.cmp
    simp
  show (Ideal.cmp .olt (Scalar.select (Ideal.cmp .une a a) _ (Scalar.select (Ideal.cmp .oeq a _) _ a))
    (Scalar.select (Ideal.cmp .une b b) _ (Scalar.select (Ideal.cmp .oeq b _) _ b)) == 1#1) = _
  rw [hz, hz, hn, hn]
  unfold Ideal.cmp
  by_cases h : a < b <;> simp [h]

/-- The contents after the sort, and at the loop's entry. -/
def E2 : Valuation τ sig (Elt Ideal) := after hostOps0_2 (E1 m c)

theorem v27_at (k : Fin 4095) : (E2 m c (Proc.devRef .tc main_v27) : IVec S4095 32) (ix1 k)
    = BitVec.ofNat 32 (sortedFrom (fun i j => decide (far (tok m c) i < far (tok m c) j)) k).val := by
  have e : (E2 m c (Proc.devRef .tc main_v27) : IVec S4095 32)
      = (Host.sort2 S4095 0 (comparator_f32_i32_d0 (F := Ideal)) (E1 m c (Proc.devRef .tc main_v26) : FVec Ideal S4095 .f32) (iotaInDim S4095 32 0)).2 := by
    delta E2; generalize E1 m c = V
    after_reads_simp
    rfl
  have hv : ∀ i : Fin 4095, (E1 m c (Proc.devRef .tc main_v26) : FVec Ideal S4095 .f32) (ix1 i) = far (tok m c) i := v26_at m c
  rw [e]
  generalize (E1 m c (Proc.devRef .tc main_v26) : FVec Ideal S4095 .f32) = f at hv
  have hlt : (fun i j : Fin 4095 => comparator_f32_i32_d0 (F := Ideal) (f (ix1 i), BitVec.ofNat 32 i.val) (f (ix1 j), BitVec.ofNat 32 j.val) == 1#1)
      = fun i j => decide (far (tok m c) i < far (tok m c) j) := by
    funext i j
    rw [comparator_eq, hv, hv]
  rw [← hlt]
  exact Words.sort_second _ f (iotaInDim S4095 32 0) k

theorem entry_eq : entryContents preI m c = after hostOps0_3 (E2 m c) := rfl

/-- At the loop's entry nothing is chosen, and the candidates are in the sort's order. -/
theorem entry_inv : Inv (fun k => if h : k < 4095 then (sortedFrom (fun i j => decide (far (tok m c) i < far (tok m c) j)) ⟨k, h⟩).val else 0) 0
    (entryContents preI m c) where
  order j := by
    rw [dif_pos j.isLt, ← v27_at, entry_eq]
    generalize E2 m c = V
    after_reads_simp
    rfl
  count := by
    rw [entry_eq]
    generalize E2 m c = V
    after_reads_simp
    rfl
  used e := by
    refine Eq.trans ?_ (Words.bit_false (Greedy.not_used_nil _)).symm
    rw [entry_eq]
    generalize E2 m c = V
    after_reads_simp
    rfl
  sel e := by
    refine Eq.trans ?_ (Words.bit_false List.not_mem_nil).symm
    rw [entry_eq]
    generalize E2 m c = V
    after_reads_simp
    rfl
  found := by
    rw [entry_eq]
    generalize E2 m c = V
    after_reads_simp
    rfl

end Cert.ReferenceIdeal.Val

end
-- ==== Proof.Prefix.lean ====
/- Numbering the places that are kept: how many are kept up to each place, and which place carries each number. -/
module

public import Mathlib.Data.Nat.Count
public import Mathlib.Data.List.Range
public import Mathlib.Algebra.BigOperators.Group.Finset.Basic
public import Mathlib.Data.Fintype.Card

@[expose] public section

namespace Prefix

variable (p : ℕ → Prop) [DecidablePred p]

/-- Adding one for each kept place up to `n` counts them. -/
theorem sum_range (n : ℕ) : ((List.range n).map fun i => if p i then 1 else 0).sum = Nat.count p n := by
  induction n with
  | zero => simp
  | succ n ih => rw [List.range_succ, List.map_append, List.sum_append, ih, Nat.count_succ]; simp

/-- The number of places below `N` whose count is at most `s`. -/
def upTo (N s : ℕ) : ℕ := ((Finset.range N).filter fun u => Nat.count p (u + 1) ≤ s).card

/-- Adding up, for each number up to `s`, how many places have it as their count. -/
theorem sum_bins (N s : ℕ) :
    ((List.range (s + 1)).map fun b => ((Finset.range N).filter fun u => Nat.count p (u + 1) = b).card).sum = upTo p N s := by
  induction s with
  | zero => simp [upTo]
  | succ s ih =>
    rw [List.range_succ, List.map_append, List.sum_append, ih]
    simp only [List.map_cons, List.map_nil, List.sum_cons, List.sum_nil, Nat.add_zero]
    unfold upTo
    rw [← Finset.card_union_of_disjoint]
    · congr 1
      ext u
      simp only [Finset.mem_union, Finset.mem_filter]
      constructor
      · rintro (⟨h, h'⟩ | ⟨h, h'⟩) <;> exact ⟨h, by omega⟩
      · rintro ⟨h, h'⟩
        rcases Nat.lt_or_ge s (Nat.count p (u + 1)) with h1 | h1
        · exact .inr ⟨h, by omega⟩
        · exact .inl ⟨h, h1⟩
    · refine Finset.disjoint_left.mpr fun u h h' => ?_
      have h1 := (Finset.mem_filter.mp h).2
      have h2 := (Finset.mem_filter.mp h').2
      omega

/-- A kept place is the one carrying its own number. -/
theorem upTo_kept {N t : ℕ} (ht : t < N) (hp : p t) : upTo p N (Nat.count p (t + 1) - 1) = t := by
  have hc : Nat.count p (t + 1) = Nat.count p t + 1 := by rw [Nat.count_succ, if_pos hp]
  have : (Finset.range N).filter (fun u => Nat.count p (u + 1) ≤ Nat.count p (t + 1) - 1) = Finset.range t := by
    ext u
    rw [Finset.mem_filter, Finset.mem_range, Finset.mem_range, hc, Nat.add_sub_cancel]
    constructor
    · rintro ⟨h, h'⟩
      by_contra hn
      have := Nat.count_monotone p (show t + 1 ≤ u + 1 by omega)
      omega
    · intro h
      exact ⟨by omega, Nat.count_monotone p (show u + 1 ≤ t by omega)⟩
  rw [upTo, this, Finset.card_range]

/-- A place that is dropped right after a kept one has that one's number. -/
theorem upTo_dropped {N t : ℕ} (ht : t + 1 < N) (hp : p t) (hn : ¬p (t + 1)) : upTo p N (Nat.count p (t + 1 + 1) - 1) = t := by
  have hc : Nat.count p (t + 1 + 1) = Nat.count p (t + 1) := by rw [Nat.count_succ p (t + 1), if_neg hn, Nat.add_zero]
  rw [hc]
  exact upTo_kept p (by omega) hp

/-- Where the first place is kept, every place's count is at least one. -/
theorem count_pos (h0 : p 0) (t : ℕ) : 1 ≤ Nat.count p (t + 1) := by
  have h := Nat.count_monotone p (show 1 ≤ t + 1 by omega)
  have : Nat.count p 1 = 1 := by rw [Nat.count_succ, if_pos h0, Nat.count_zero]
  omega

/-- As many places are kept as are not the successors of a list's entries. -/
theorem count_not_succ (L : List ℕ) (hnd : L.Nodup) {N : ℕ} (hL : ∀ a ∈ L, a + 1 < N) (hp : ∀ i, p i ↔ ¬∃ a ∈ L, a + 1 = i) :
    Nat.count p N + L.length = N := by
  classical
  have h1 : ((Finset.range N).filter fun i => ¬p i) = L.toFinset.image (· + 1) := by
    ext i
    rw [Finset.mem_filter, Finset.mem_image, Finset.mem_range, hp, not_not]
    constructor
    · rintro ⟨-, a, ha, e⟩; exact ⟨a, List.mem_toFinset.mpr ha, e⟩
    · rintro ⟨a, ha, e⟩
      have ha := List.mem_toFinset.mp ha
      have := hL a ha
      exact ⟨by omega, a, ha, e⟩
  have h2 : ((Finset.range N).filter fun i => ¬p i).card = L.length := by
    rw [h1, Finset.card_image_of_injective _ (fun a b e => Nat.succ.inj e), List.toFinset_card_of_nodup hnd]
  have h3 := Finset.card_filter_add_card_filter_not (s := Finset.range N) p
  rw [h2, Finset.card_range] at h3
  rw [Nat.count_eq_card_filter_range]
  exact h3

end Prefix

end
-- ==== Proof.RV.After.lean ====
/- What the reference computes after its loop: the averages, and for every token the number of its kept token. -/
module

public import proofs.«01_k».proof.Proof.RV.Entry
public import proofs.«01_k».proof.Proof.Prefix
public import Idealize.ShloMosaic.Lib.Routing.Words
public import Idealize.ShloMosaic.Lib.WordArith

@[expose] public section

set_option maxRecDepth 16384

noncomputable section

namespace Cert.ReferenceIdeal.Val

open Cert.ReferenceIdeal Cert.ReferenceIdeal.Gen Cert.ReferenceIdeal.Value
open Idealize.ShloMosaic Idealize.ShloMosaic.TcCoe Idealize.ShloMosaic.StableHlo
open Words (bit bit_true bit_false)

variable (V : Valuation τ sig (Elt Ideal))

/-- The contents after each stretch that follows the loop. -/
def P4 : Valuation τ sig (Elt Ideal) := after hostOps0_4 V
def P5 : Valuation τ sig (Elt Ideal) := after hostOps0_5 (P4 V)
def P6 : Valuation τ sig (Elt Ideal) := after hostOps0_6 (P5 V)
def P7 : Valuation τ sig (Elt Ideal) := after hostOps0_7 (P6 V)
def P8 : Valuation τ sig (Elt Ideal) := after hostOps0_8 (P7 V)
def P10 : Valuation τ sig (Elt Ideal) := after hostOps0_10 (after hostOps0_9 (P8 V))
def P12 : Valuation τ sig (Elt Ideal) := after hostOps0_12 (after hostOps0_11 (P10 V))
def P13 : Valuation τ sig (Elt Ideal) := after hostOps0_13 (P12 V)
def P14 : Valuation τ sig (Elt Ideal) := after hostOps0_14 (P13 V)
def P15 : Valuation τ sig (Elt Ideal) := after hostOps0_15 (P14 V)
def P16 : Valuation τ sig (Elt Ideal) := after hostOps0_16 (P15 V)
def P17 : Valuation τ sig (Elt Ideal) := after hostOps0_17 (P16 V)

theorem after_loop : afterL postI V = P17 V := rfl

variable {V} {L : List ℕ} (hsel : ∀ e : Fin 4095, (V (Proc.devRef .tc main_v30_3) : IVec S4095 1) (ix1 e) = bit (e.val ∈ L))

/-- The places that stay: those right after no chosen token. -/
def Kept (L : List ℕ) (t : ℕ) : Prop := ¬∃ a ∈ L, a + 1 = t

include hsel in
/-- A place's mark after the loop: whether it stays. -/
theorem v35_at (t : Fin 4096) : (P4 V (Proc.devRef .tc main_v35) : IVec S4096 1) (ix1 t) = bit (Kept L t.val) := by
  delta P4
  after_reads_at
  split
  · next h =>
    after_reads_at
    rw [bit_true (p := Kept L t.val) (fun ⟨a, _, e⟩ => by omega)]
    rfl
  · next h =>
    after_reads_at
    refine (congrArg (fun b : BitVec 1 => ~~~b) (hsel ⟨t.val - 1, by omega⟩)).trans ((Words.bit_not _).trans (Words.bit_congr (not_congr ?_)))
    exact ⟨fun h' => ⟨_, h', by show t.val - 1 + 1 = _; omega⟩, fun ⟨a, ha, e⟩ => (show t.val - 1 = a by omega) ▸ ha⟩

include hsel in
open Classical in
/-- The chosen tokens' averages, every other token as it was. -/
theorem v43_at (x : FVec Ideal S4x4096x2048 .f32) (hx : V (Proc.devRef .tc main_arg0) = x) (hL : ∀ a ∈ L, a + 1 < 4096)
    (b : Fin 4) (g : Fin 4096) (d : Fin 2048) :
    (P5 V (Proc.devRef .tc main_v43) : FVec Ideal S4x4096x2048 .f32) (ix3 b g d)
      = if h : g.val ∈ L then Rows.half * (x (ix3 b g d) + x (ix3 b ⟨g.val + 1, hL _ h⟩ d)) else x (ix3 b g d) := by
  subst hx
  delta P5 P4
  after_reads_at
  split
  · next h =>
    after_reads_at
    have e := hsel ⟨g.val, h⟩
    by_cases hg : g.val ∈ L
    · rw [bit_true hg] at e
      rw [dif_pos hg]
      refine (congrArg (fun w : BitVec 1 => Scalar.select w _ _) e).trans ?_
      have hs : ∀ x : FVec Ideal S4x4096x2048 .f32, ∀ h' : 1 + g.val < 4096,
          Rows.half * (x (ix3 b g d) + x (ix3 b ⟨1 + g.val, h'⟩ d)) = Rows.half * (x (ix3 b g d) + x (ix3 b ⟨g.val + 1, hL _ hg⟩ d)) := fun x h' =>
        congrArg (fun i : Fin 4096 => Rows.half * (x (ix3 b g d) + x (ix3 b i d))) (Fin.ext (Nat.add_comm 1 g.val))
      exact hs _ _
    · rw [bit_false hg] at e
      rw [dif_neg hg]
      exact (congrArg (fun w : BitVec 1 => Scalar.select w _ _) e).trans rfl
  · next h =>
    after_reads_at
    rw [dif_neg (fun hg => by have := hL _ hg; omega)]

/-- The marks pass through what follows unchanged. -/
theorem v35_first : (P5 V (Proc.devRef .tc main_v35) : IVec S4096 1) = P4 V (Proc.devRef .tc main_v35) := by
  delta P5
  generalize P4 V = U
  after_reads_simp

theorem v35_mid : (P12 V (Proc.devRef .tc main_v35) : IVec S4096 1) = P5 V (Proc.devRef .tc main_v35) := by
  delta P12 P10 P8 P7 P6
  generalize P5 V = U
  after_reads_simp

theorem v35_late : (P14 V (Proc.devRef .tc main_v35) : IVec S4096 1) = P12 V (Proc.devRef .tc main_v35) := by
  delta P14 P13
  generalize P12 V = U
  after_reads_simp

/-- The averages pass through the numbering unchanged. -/
theorem v43_kept : (P14 V (Proc.devRef .tc main_v43) : FVec Ideal S4x4096x2048 .f32) = P5 V (Proc.devRef .tc main_v43) := by
  delta P14 P13 P12 P10 P8 P7 P6
  generalize P5 V = U
  after_reads_simp

/-- The running count of the places that stay. -/
theorem v44_eq : (P6 V (Proc.devRef .tc main_v44) : IVec S4096 32)
    = Host.reduceWindow IntOp.addi ![4096] ![1] ![4095] ![0] (extui 32 (P5 V (Proc.devRef .tc main_v35) : IVec S4096 1) natLt_1_32) (fun _ => 0#32)
      reduceWindows_S4096_S4096_w4096s1p4095_0 h_S_ := by
  have e : broadcastInDim S_ ![] bcast_S_S_ (constantI S_ 32 0#32) = fun _ => 0#32 := rfl
  delta P6
  generalize P5 V = U
  after_reads_simp
  simp -implicitDefEqProofs only [StableHlo.TRef.toBuf, StableHlo.TRef.ofBuf, cast_cast, cast_eq]
  rw [e]

/-- How many places carry each count. -/
theorem v53_eq : (P7 V (Proc.devRef .tc main_v53) : IVec S3584 32)
    = Host.scatter scatter_S3584_S4096x1_S4096_n_0_0_1 IntOp.addi (fun _ => 0#32) (P7 V (Proc.devRef .tc main_v51) : IVec S4096x1 32) (fun _ => 1#32) := by
  delta P7
  generalize P6 V = U
  after_reads_simp
  rfl

theorem v51_at (u : Fin 4096) (n : ℕ) (hn : n < 2 ^ 31) (h : (P6 V (Proc.devRef .tc main_v44) : IVec S4096 32) (ix1 u) = BitVec.ofNat 32 n) :
    (P7 V (Proc.devRef .tc main_v51) : IVec S4096x1 32) (ix2 u 0) = BitVec.ofNat 32 n := by
  delta P7
  generalize P6 V = U at h ⊢
  after_reads_at
  rw [h]
  exact Words.wrap_small hn _

/-- The running total of those numbers. -/
theorem v54_eq : (P8 V (Proc.devRef .tc main_v54) : IVec S3584 32)
    = Host.reduceWindow IntOp.addi ![3584] ![1] ![3583] ![0] (P7 V (Proc.devRef .tc main_v53) : IVec S3584 32) (fun _ => 0#32)
      reduceWindows_S3584_S3584_w3584s1p3583_0 h_S_ := by
  have e : broadcastInDim S_ ![] bcast_S_S_ (constantI S_ 32 0#32) = fun _ => 0#32 := rfl
  delta P8
  generalize P7 V = U
  after_reads_simp
  simp -implicitDefEqProofs only [StableHlo.TRef.toBuf, StableHlo.TRef.ofBuf, cast_cast, cast_eq]
  rw [e]

/-- Dividing by one changes nothing. -/
theorem v55_at (s : Fin 3584) : (P10 V (Proc.devRef .tc main_v55) : IVec S3584 32) (ix1 s) = (P8 V (Proc.devRef .tc main_v54) : IVec S3584 32) (ix1 s) := by
  delta P10
  generalize P8 V = U
  after_reads_at
  have e : id (constantI S_ 32 1#32) ix0 = 1#32 := rfl
  rw [e, WordArith.remsi_one, WordArith.divsi_one]
  have h0 : IntOp.cmpi .ne 0#32 0#32 = 0#1 := rfl
  have h1 : ∀ w : BitVec 1, IntOp.andi w 0#1 = 0#1 := fun w => BitVec.and_zero
  rw [h0, h1]
  rfl

/-- The remainder by the number of tokens changes nothing below it. -/
theorem v56_at (s : Fin 3584) (n : ℕ) (hn : n < 4096) (h : (P10 V (Proc.devRef .tc main_v55) : IVec S3584 32) (ix1 s) = BitVec.ofNat 32 n) :
    (P12 V (Proc.devRef .tc main_v56) : IVec S3584 32) (ix1 s) = BitVec.ofNat 32 n := by
  delta P12
  generalize P10 V = U at h ⊢
  after_reads_at
  have e : Scalar.select (IntOp.cmpi .eq (id (constantI S_ 32 4096#32) ix0) 0#32) (1#32) (id (constantI S_ 32 4096#32) ix0) = BitVec.ofNat 32 4096 := rfl
  rw [e, h, Routing.remsi_word .host (by omega) (by omega) (by omega), Nat.mod_eq_of_lt hn]
  have h0 : IntOp.cmpi .slt (BitVec.ofNat 32 n) 0#32 = 0#1 := (Words.slt_small (b := 0) (by omega) (by omega)).trans (bit_false (Nat.not_lt_zero n))
  have h1 : IntOp.cmpi .slt (BitVec.ofNat 32 4096) 0#32 = 0#1 := rfl
  have h2 : IntOp.cmpi .ne 0#1 0#1 = 0#1 := rfl
  have h3 : ∀ w : BitVec 1, IntOp.andi 0#1 w = 0#1 := fun w => BitVec.zero_and
  rw [h0, h1, h2, h3]
  rfl

/-- No number reaches the count of all the places that stay, so none is put to zero. -/
theorem v64_at (s : Fin 3584) (hw : Finset.fold IntOp.addi (0#32)
      (fun k : Fin 4096 => BitVec.setWidth 32 ((P12 V (Proc.devRef .tc main_v35) : IVec S4096 1) (ix1 k))) Finset.univ = BitVec.ofNat 32 3584) :
    (P14 V (Proc.devRef .tc main_v64) : IVec S3584 32) (ix1 s) = (P12 V (Proc.devRef .tc main_v56) : IVec S3584 32) (ix1 s) := by
  delta P14 P13
  generalize P12 V = U at hw ⊢
  after_reads_at
  rw [hw]
  have h0 : IntOp.cmpi .sge (BitVec.ofNat 32 s.val) (BitVec.ofNat 32 3584) = 0#1 := by
    rcases BitVec.eq_zero_or_eq_one (IntOp.cmpi .sge (BitVec.ofNat 32 s.val) (BitVec.ofNat 32 3584)) with e | e
    · exact e
    · have := (StableHlo.Predicate.sle_ofNat_iff 3584 s.val (by omega) (by omega)).mp e
      omega
  rw [h0]
  rfl

theorem v70_at (s : Fin 3584) (n : ℕ) (hn : n < 2 ^ 31) (h : (P14 V (Proc.devRef .tc main_v64) : IVec S3584 32) (ix1 s) = BitVec.ofNat 32 n) :
    (P15 V (Proc.devRef .tc main_v70) : IVec S3584x1 32) (ix2 s 0) = BitVec.ofNat 32 n := by
  delta P15
  generalize P14 V = U at h ⊢
  after_reads_at
  rw [h]
  exact Words.wrap_small hn _

/-- The rows that stay, one after another. -/
theorem v71_eq : (P15 V (Proc.devRef .tc main_v71) : FVec Ideal S4x3584x2048 .f32)
    = Host.gather gather_S4x4096x2048_S3584x1_S4x3584x2048_02_1_n_n_1_1_412048 (P14 V (Proc.devRef .tc main_v43) : FVec Ideal S4x4096x2048 .f32) (P15 V (Proc.devRef .tc main_v70) : IVec S3584x1 32) := by
  delta P15
  generalize P14 V = U
  after_reads_simp

theorem v71_kept : (P16 V (Proc.devRef .tc main_v71) : FVec Ideal S4x3584x2048 .f32) = P15 V (Proc.devRef .tc main_v71) := by
  delta P16
  generalize P15 V = U
  after_reads_simp

theorem v72_at (u : Fin 4096) : (P15 V (Proc.devRef .tc main_v72) : IVec S4096 32) (ix1 u) = BitVec.setWidth 32 ((P14 V (Proc.devRef .tc main_v35) : IVec S4096 1) (ix1 u)) := by
  delta P15
  generalize P14 V = U
  after_reads_at

/-- The running count of the places that stay, taken once more. -/
theorem v73_eq : (P16 V (Proc.devRef .tc main_v73) : IVec S4096 32)
    = Host.reduceWindow IntOp.addi ![4096] ![1] ![4095] ![0] (P15 V (Proc.devRef .tc main_v72) : IVec S4096 32) (fun _ => 0#32)
      reduceWindows_S4096_S4096_w4096s1p4095_0 h_S_ := by
  have e : broadcastInDim S_ ![] bcast_S_S_ (constantI S_ 32 0#32) = fun _ => 0#32 := rfl
  delta P16
  generalize P15 V = U
  after_reads_simp
  simp -implicitDefEqProofs only [StableHlo.TRef.toBuf, StableHlo.TRef.ofBuf, cast_cast, cast_eq]
  rw [e]

/-- One less than the running count: the number of a place's row. -/
theorem v81_at (s : Fin 4096) (n : ℕ) (hn : n < 2 ^ 31) (h : (P16 V (Proc.devRef .tc main_v73) : IVec S4096 32) (ix1 s) = BitVec.ofNat 32 (n + 1)) :
    (P17 V (Proc.devRef .tc main_v81) : IVec S4096x1 32) (ix2 s 0) = BitVec.ofNat 32 n := by
  delta P17
  generalize P16 V = U at h ⊢
  after_reads_at
  have e : IntOp.subi (BitVec.ofNat 32 (n + 1)) 1#32 = BitVec.ofNat 32 n := by
    show BitVec.ofNat 32 (n + 1) - 1#32 = BitVec.ofNat 32 n
    rw [BitVec.ofNat_add]
    exact BitVec.add_sub_cancel _ _
  rw [h, e]
  exact Words.wrap_small hn _

/-- The result: every place's row by its number. -/
theorem v82_eq : (P17 V (Proc.devRef .tc main_v82) : FVec Ideal S4x4096x2048 .f32)
    = Host.gather gather_S4x3584x2048_S4096x1_S4x4096x2048_02_1_n_n_1_1_412048 (P16 V (Proc.devRef .tc main_v71) : FVec Ideal S4x3584x2048 .f32) (P17 V (Proc.devRef .tc main_v81) : IVec S4096x1 32) := by
  delta P17
  generalize P16 V = U
  after_reads_simp

end Cert.ReferenceIdeal.Val

end
-- ==== Proof.RV.Row.lean ====
/- What the reference's result holds, once its loop has chosen the tokens. -/
module

public import proofs.«01_k».proof.Proof.RV.After

@[expose] public section

set_option maxRecDepth 16384

noncomputable section

namespace Cert.ReferenceIdeal.Val

open Cert.ReferenceIdeal Cert.ReferenceIdeal.Gen Cert.ReferenceIdeal.Value
open Idealize.ShloMosaic Idealize.ShloMosaic.TcCoe Idealize.ShloMosaic.StableHlo
open Words (bit bit_true bit_false)
open scoped Classical

/-- Adding one for each place that has a property counts those places. -/
theorem total {N : ℕ} (hN : N < 2 ^ 32) (p : ℕ → Prop) (w : Fin N → BitVec 1) (hw : ∀ k, w k = bit (p k.val)) :
    Finset.fold IntOp.addi (0#32) (fun k => BitVec.setWidth 32 (w k)) Finset.univ = BitVec.ofNat 32 (Nat.count p N) := by
  have hs : ∑ k : Fin N, (BitVec.setWidth 32 (w k)).toNat = Nat.count p N := by
    rw [Nat.count_eq_card_filter_range, Finset.card_filter, ← Fin.sum_univ_eq_sum_range (fun i => if p i then 1 else 0)]
    refine Finset.sum_congr rfl fun k _ => ?_
    rw [hw, Words.bit_word]
    by_cases h : p k.val
    · rw [if_pos h, if_pos h]; rfl
    · rw [if_neg h, if_neg h]; rfl
  have hle : Nat.count p N ≤ N := Nat.count_le _
  refine BitVec.eq_of_toNat_eq ?_
  rw [StableHlo.Predicate.toNat_fold_addi _ _ (by rw [hs]; omega), hs, BitVec.toNat_ofNat, Nat.mod_eq_of_lt (by omega)]

variable {V : Valuation τ sig (Elt Ideal)} {L : List ℕ}

theorem count_all (hL : ∀ a ∈ L, a + 1 < 4096) (hnd : L.Nodup) (hlen : L.length = 512) : Nat.count (Kept L) 4096 = 3584 := by
  have := Prefix.count_not_succ (Kept L) L hnd hL fun _ => Iff.rfl
  omega

theorem kept_zero : Kept L 0 := fun ⟨_, _, e⟩ => Nat.succ_ne_zero _ e

theorem count_le (u : ℕ) : Nat.count (Kept L) u ≤ u := Nat.count_le _

theorem upTo_lt (hL : ∀ a ∈ L, a + 1 < 4096) (hnd : L.Nodup) (hlen : L.length = 512) (s : Fin 3584) : Prefix.upTo (Kept L) 4096 s.val < 4096 := by
  have hc := count_all hL hnd hlen
  have hsub : (Finset.range 4096).filter (fun u => Nat.count (Kept L) (u + 1) ≤ s.val) ⊆ Finset.range 4095 := fun u h => by
    obtain ⟨h1, h2⟩ := Finset.mem_filter.mp h
    have h1 := Finset.mem_range.mp h1
    refine Finset.mem_range.mpr ?_
    by_contra hn
    obtain rfl : u = 4095 := by omega
    have h2 : Nat.count (Kept L) 4096 ≤ s.val := h2
    have := s.isLt
    omega
  have := Finset.card_le_card hsub
  rw [Finset.card_range] at this
  exact Nat.lt_succ_of_le this

section
variable (hsel : ∀ e : Fin 4095, (V (Proc.devRef .tc main_v30_3) : IVec S4095 1) (ix1 e) = bit (e.val ∈ L))
  (hL : ∀ a ∈ L, a + 1 < 4096) (hnd : L.Nodup) (hlen : L.length = 512)

include hsel

theorem v44_at (t : Fin 4096) : (P6 V (Proc.devRef .tc main_v44) : IVec S4096 32) (ix1 t) = BitVec.ofNat 32 (Nat.count (Kept L) (t.val + 1)) := by
  rw [v44_eq, v35_first]
  refine (Words.totals rfl _ (fun i => if Kept L i then 1 else 0) (fun i => ?_) _ (fun _ => rfl) _ _ t).trans
    (congrArg (BitVec.ofNat 32) (Prefix.sum_range (Kept L) (t.val + 1)))
  refine (congrArg (BitVec.setWidth 32) (v35_at hsel i)).trans ((Words.bit_word _).trans ?_)
  by_cases h : Kept L i.val
  · rw [if_pos h, if_pos h]
  · rw [if_neg h, if_neg h]

theorem v53_at (e : Fin 3584) : (P7 V (Proc.devRef .tc main_v53) : IVec S3584 32) (ix1 e)
    = BitVec.ofNat 32 ((Finset.range 4096).filter fun u => Nat.count (Kept L) (u + 1) = e.val).card := by
  rw [v53_eq]
  refine Words.bins _ _ (fun _ => rfl) _ _ (fun _ => rfl) (fun u => Nat.count (Kept L) (u + 1)) (fun i => ?_) e
  have h := count_le (L := L) (i.val + 1)
  have hi := i.isLt
  rw [v51_at i _ (by omega) (v44_at hsel i)]
  exact Words.toInt_small (by omega)

theorem v54_at (s : Fin 3584) : (P8 V (Proc.devRef .tc main_v54) : IVec S3584 32) (ix1 s) = BitVec.ofNat 32 (Prefix.upTo (Kept L) 4096 s.val) := by
  rw [v54_eq]
  exact (Words.totals rfl _ (fun b => ((Finset.range 4096).filter fun u => Nat.count (Kept L) (u + 1) = b).card) (fun i => v53_at hsel i) _
    (fun _ => rfl) _ _ s).trans (congrArg (BitVec.ofNat 32) (Prefix.sum_bins (Kept L) 4096 s.val))

include hL hnd hlen

theorem v70_at' (s : Fin 3584) : (P15 V (Proc.devRef .tc main_v70) : IVec S3584x1 32) (ix2 s 0) = BitVec.ofNat 32 (Prefix.upTo (Kept L) 4096 s.val) := by
  have hlt := upTo_lt hL hnd hlen s
  refine v70_at s _ (by omega) ?_
  rw [v64_at s ?_]
  · exact v56_at s _ hlt ((v55_at s).trans (v54_at hsel s))
  · refine (total (by omega) (Kept L) _ fun k => ?_).trans (congrArg (BitVec.ofNat 32) (count_all hL hnd hlen))
    rw [v35_mid, v35_first]
    exact v35_at hsel k

/-- The row with a number: the average, or the token itself, at the place that carries the number. -/
theorem v71_at (s : Fin 3584) (k : Fin 4096) (hk : Prefix.upTo (Kept L) 4096 s.val = k.val) (b : Fin 4) (d : Fin 2048) :
    (P16 V (Proc.devRef .tc main_v71) : FVec Ideal S4x3584x2048 .f32) (ix3 b s d)
      = (P5 V (Proc.devRef .tc main_v43) : FVec Ideal S4x4096x2048 .f32) (ix3 b k d) := by
  rw [v71_kept, v71_eq, v43_kept]
  refine Words.take_mid _ _ _ b s d k ?_
  have hk' := k.isLt
  rw [v70_at' hsel hL hnd hlen, hk]
  exact Words.toInt_small (by omega)

theorem v82_at (t : Fin 4096) (k : Fin 4096) (hk : Prefix.upTo (Kept L) 4096 (Nat.count (Kept L) (t.val + 1) - 1) = k.val) (b : Fin 4) (d : Fin 2048) :
    (P17 V (Proc.devRef .tc main_v82) : FVec Ideal S4x4096x2048 .f32) (ix3 b t d)
      = (P5 V (Proc.devRef .tc main_v43) : FVec Ideal S4x4096x2048 .f32) (ix3 b k d) := by
  have ht := t.isLt
  have h1 : 1 ≤ Nat.count (Kept L) (t.val + 1) := Prefix.count_pos (Kept L) kept_zero t.val
  have h2 : Nat.count (Kept L) (t.val + 1) ≤ 3584 := by
    rw [← count_all hL hnd hlen]
    exact Nat.count_monotone _ (by omega)
  have hs : Nat.count (Kept L) (t.val + 1) - 1 < 3584 := by omega
  rw [v82_eq]
  refine (Words.take_mid _ _ _ b t d ⟨Nat.count (Kept L) (t.val + 1) - 1, hs⟩ ?_).trans (v71_at hsel hL hnd hlen ⟨_, hs⟩ k hk b d)
  have e : (P16 V (Proc.devRef .tc main_v73) : IVec S4096 32) (ix1 t) = BitVec.ofNat 32 (Nat.count (Kept L) (t.val + 1) - 1 + 1) := by
    rw [v73_eq, Nat.sub_add_cancel h1]
    refine (Words.totals rfl _ (fun i => if Kept L i then 1 else 0) (fun i => ?_) _ (fun _ => rfl) _ _ t).trans
      (congrArg (BitVec.ofNat 32) (Prefix.sum_range (Kept L) (t.val + 1)))
    rw [v72_at, v35_late, v35_mid, v35_first, v35_at hsel, Words.bit_word]
    by_cases h : Kept L i.val
    · rw [if_pos h, if_pos h]
    · rw [if_neg h, if_neg h]
  rw [v81_at t _ (by omega) e]
  exact Words.toInt_small (by omega)

/-- The reference's result: each chosen token and the token after it hold their average, every other token is unchanged. -/
theorem v82_merged (hap : ∀ a ∈ L, ∀ b ∈ L, a = b ∨ (a ≠ b + 1 ∧ b ≠ a + 1)) (x : FVec Ideal S4x4096x2048 .f32)
    (hx : V (Proc.devRef .tc main_arg0) = x) (b : Fin 4) (t : Fin 4096) (d : Fin 2048) :
    (P17 V (Proc.devRef .tc main_v82) : FVec Ideal S4x4096x2048 .f32) (ix3 b t d) = Rows.merged (fun g => x (ix3 b g d)) L t := by
  have ht := t.isLt
  unfold Rows.merged
  by_cases hk : Kept L t.val
  · rw [v82_at hsel hL hnd hlen t t (Prefix.upTo_kept (Kept L) ht hk) b d, v43_at hsel x hx hL]
    by_cases hg : t.val ∈ L
    · rw [dif_pos hg, dif_pos ⟨hg, hL _ hg⟩]
    · rw [dif_neg hg, dif_neg (fun h => hg h.1), if_neg hk]
  · obtain ⟨a, ha, e⟩ := not_not.mp hk
    have hka : Kept L a := fun ⟨a', ha', e'⟩ => by
      rcases hap a ha a' ha' with h | h
      · omega
      · exact h.1 e'.symm
    have hna : ¬Kept L (a + 1) := fun h => h ⟨a, ha, rfl⟩
    have hg : t.val ∉ L := fun hg => by
      rcases hap _ hg a ha with h | h
      · omega
      · exact h.1 e.symm
    have hb : t.val - 1 = a := by omega
    have hu : Prefix.upTo (Kept L) 4096 (Nat.count (Kept L) (t.val + 1) - 1) = t.val - 1 := by
      rw [hb, ← e]
      exact Prefix.upTo_dropped (Kept L) (by omega) hka hna
    have hm : t.val - 1 ∈ L := hb ▸ ha
    refine ((v82_at hsel hL hnd hlen t ⟨t.val - 1, by omega⟩ hu b d).trans ((v43_at hsel x hx hL b _ d).trans (dif_pos hm))).trans ?_
    rw [dif_neg (fun h => hg h.1), if_pos ⟨a, ha, e⟩]
    have ei : (⟨t.val - 1 + 1, hL _ (hb ▸ ha)⟩ : Fin 4096) = t := Fin.ext (by show t.val - 1 + 1 = t.val; omega)
    exact congrArg (fun i : Fin 4096 => Rows.half * (x (ix3 b ⟨t.val - 1, by omega⟩ d) + x (ix3 b i d))) ei

end

end Cert.ReferenceIdeal.Val

end
-- ==== Proof.Equal.lean ====
/- The reference's result is the same function of the input as the kernel's. -/
module

public import proofs.«01_k».proof.Proof.Order
public import proofs.«01_k».proof.Proof.RV.Row

@[expose] public section

set_option maxRecDepth 16384

noncomputable section

namespace Cert.ReferenceIdeal.Val

open Cert.ReferenceIdeal Cert.ReferenceIdeal.Gen Cert.ReferenceIdeal.Value
open Idealize.ShloMosaic Idealize.ShloMosaic.TcCoe Idealize.ShloMosaic.StableHlo
open Words (bit)
open Greedy (pick orderOf)
open Cert.KernelIdeal.Val (chosen rankN rankN_isRank sorted_order mergedAll)

variable (m : (ℓ : Loc nD τ sig) → Buf (Elt Ideal) ℓ) (c : Dev nD)

/-- The order in which the loop looks at the tokens. -/
def ord (k : ℕ) : ℕ :=
  if h : k < 4095 then (sortedFrom (fun i j => decide (far (tok m c) i < far (tok m c) j)) ⟨k, h⟩).val else 0

/-- It is the order of the keys' ranks. -/
theorem ord_eq {k : ℕ} (hk : k < 4095) : ord m c k = orderOf 4096 (rankN (Rows.key (tok m c))) k := by
  unfold ord
  rw [dif_pos hk]
  exact sorted_order (tok m c) (far (tok m c)) (fun _ => rfl) ⟨k, hk⟩

/-- The loop chooses the tokens the kernel chooses. -/
theorem picked : pick 512 (ord m c) 4095 = chosen (Rows.key (tok m c)) := by
  rw [Cert.KernelIdeal.Val.chosen_eq]
  exact Greedy.pick_congr fun k hk => ord_eq m c hk

theorem selected (e : Fin 4095) :
    (W0 m c (Proc.devRef .tc main_v30_3) : IVec S4095 1) (ix1 e) = bit (e.val ∈ chosen (Rows.key (tok m c))) := by
  rw [← picked]
  refine chosen_after m c (fun k hk => ?_) (fun i hi j hj h => ?_) (entry_inv m c) e
  · show ord m c k < 4095
    rw [ord_eq m c hk]
    exact Cert.KernelIdeal.Val.order_lt (tok m c) hk
  · have h : ord m c i = ord m c j := h
    rw [ord_eq m c hi, ord_eq m c hj] at h
    have R := rankN_isRank (Rows.key (tok m c))
    rw [← (R.order (show i < 4096 by omega)).2, ← (R.order (show j < 4096 by omega)).2, h]

/-- What the reference returns: each chosen token and the token after it hold their average, every other token is unchanged. -/
theorem final_v82 : final m c (Proc.devRef .tc main_v82) = mergedAll (X m c) (chosen (Rows.key (tok m c))) := by
  have hx : W0 m c (Proc.devRef .tc main_arg0) = X m c :=
    (W0_keeps m c main_arg0 (by decide) (by decide) (by decide)).trans (entry_arg m c)
  funext i
  rw [final_eq, after_loop, eq_ix3 i]
  exact v82_merged (selected m c) (Cert.KernelIdeal.Val.chosen_succ_lt _) (Cert.KernelIdeal.Val.chosen_nodup _)
    (Cert.KernelIdeal.Val.chosen_length _) (Cert.KernelIdeal.Val.chosen_apart _) (X m c) hx (i 0) (i 1) (i 2)

end Cert.ReferenceIdeal.Val

end
-- ==== Proof.lean ====
/- The proof of the certificate's claims. -/
module

public import proofs.«01_k».proof.Defs
public import proofs.«01_k».proof.Proof.KI.Whole
public import proofs.«01_k».proof.Proof.KV.Call3
public import proofs.«01_k».proof.Proof.Equal
public import Idealize.ShloMosaic.Adequacy
public import Idealize.ShloMosaic.Init

@[expose] public section

noncomputable section

namespace Cert.Proof

open Idealize.ShloMosaic Idealize.SL.Sem Idealize.ShloMosaic.TcCoe
open Cert.KernelIdeal.Val (X tok chosen mergedAll)

/-- The kernel ends with the averages of the pairs it chose. -/
theorem kernel_ends (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal))) ⟨m, fun _ => 0, g⟩
      (fun r => ∀ c : Dev Cert.KernelIdeal.nD,
        r.2.mem ((c.tc : Thread Cert.KernelIdeal.nD Cert.KernelIdeal.τ).loc Cert.KernelIdeal.main_v22)
          = mergedAll (X m c) (chosen (Rows.key (tok m c)))
        ∧ r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0)) :=
  (θ_run _ _ _).mono
    (fun _ h c => ⟨(h.1 c).1.trans (Cert.KernelIdeal.Val.W10_v22 m c (Cert.KernelIdeal.Val.chosen_succ_lt (tok m c))), (h.1 c).2⟩)
    (Cert.KernelIdeal.Hand.run m g (Cert.KernelIdeal.Val.ranksOk m))

/-- The reference ends with the averages of the pairs it chose. -/
theorem reference_ends (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
        r.2.mem ((c.tc : Thread Cert.ReferenceIdeal.nD Cert.ReferenceIdeal.τ).loc Cert.ReferenceIdeal.main_v82)
          = mergedAll (Cert.ReferenceIdeal.Val.X m c) (chosen (Rows.key (Cert.ReferenceIdeal.Val.tok m c)))
        ∧ r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)) :=
  (θ_run _ _ _).mono (fun _ h c => ⟨(h.1 c).1.trans (Cert.ReferenceIdeal.Val.final_v82 m c), (h.1 c).2⟩)
    (Cert.ReferenceIdeal.Val.run m g)

/-- From equal inputs the two results are the same function of the input. -/
theorem same_result (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    mergedAll (Cert.ReferenceIdeal.Val.X m' c) (chosen (Rows.key (Cert.ReferenceIdeal.Val.tok m' c)))
      = mergedAll (X m c) (chosen (Rows.key (tok m c))) :=
  congrArg (fun x : FVec Ideal Cert.KernelIdeal.S4x4096x2048 .f32 =>
    mergedAll x (chosen (Rows.key fun (i : Fin 4096) (d : Fin 2048) => x (ix3 0 i d)))) h

theorem claim : Cert.Claim := ⟨Cert.KernelIdeal.Gen.facts, Cert.ReferenceIdeal.Gen.facts,
  fun m g _ => (θ_run _ _ _).mono (fun _ h => ⟨fun c => (h.1 c).2, h.2⟩) (Cert.KernelIdeal.Hand.run m g (Cert.KernelIdeal.Val.ranksOk m)),
  fun m g _ => (θ_run _ _ _).mono (fun _ h => ⟨fun c => (h.1 c).2, h.2⟩) (Cert.ReferenceIdeal.Val.run m g),
  fun m g m' g' _ hx => ⟨fun c => mergedAll (X m c) (chosen (Rows.key (tok m c))), kernel_ends m g,
    (θ_run _ _ _).mono (fun _ h c => ⟨(h c).1.trans (same_result m m' c (hx c)), (h c).2⟩) (reference_ends m' g')⟩⟩

end Cert.Proof

end
